-- ==== Defs.lean ====
def Pre_Kernel [hPre_indices_in_table : Cert.Pre_indices_in_table.Facts] (m : (ℓ : Loc Cert.Kernel.nD Cert.Kernel.τ Cert.Kernel.sig) → Buf (Elt Bits) ℓ) : Prop :=
  ∀ c : Dev Cert.Kernel.nD,
    (Cert.Pre_indices_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_indices_in_table : Cert.Pre_indices_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_table_and_finite [hPre_in_table_and_finite : Cert.Pre_in_table_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_table_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_indices_in_table : Cert.Pre_indices_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_ReferenceIdeal_in_table_and_finite [hPre_in_table_and_finite : Cert.Pre_in_table_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_indices_in_table : Cert.Pre_indices_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_indices_in_table : Cert.Pre_indices_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_table_and_finite [hKernelIdeal : Cert.KernelIdeal.Facts] [hPre_in_table_and_finite : Cert.Pre_in_table_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_table_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_indices_in_table : Cert.Pre_indices_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_table_and_finite [hReferenceIdeal : Cert.ReferenceIdeal.Facts] [hPre_in_table_and_finite : Cert.Pre_in_table_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_table_and_finite [hKernelIdeal : Cert.KernelIdeal.Facts] [hReferenceIdeal : Cert.ReferenceIdeal.Facts] [hPre_in_table_and_finite : Cert.Pre_in_table_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_table_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_indices_in_table : Cert.Pre_indices_in_table.Facts) (hPre_in_table_and_finite : Cert.Pre_in_table_and_finite.Facts),
    quiescent_Kernel (hKernel := hKernel) (hPre_indices_in_table := hPre_indices_in_table)
    ∧ quiescent_KernelIdeal (hKernelIdeal := hKernelIdeal) (hPre_indices_in_table := hPre_indices_in_table)
    ∧ quiescent_KernelIdeal_pre_in_table_and_finite (hKernelIdeal := hKernelIdeal) (hPre_in_table_and_finite := hPre_in_table_and_finite)
    ∧ quiescent_ReferenceIdeal (hReferenceIdeal := hReferenceIdeal) (hPre_indices_in_table := hPre_indices_in_table)
    ∧ quiescent_ReferenceIdeal_pre_in_table_and_finite (hReferenceIdeal := hReferenceIdeal) (hPre_in_table_and_finite := hPre_in_table_and_finite)
    ∧ preserves_Kernel_KernelIdeal
    ∧ algebraic_KernelIdeal_ReferenceIdeal_pre_in_table_and_finite (hKernelIdeal := hKernelIdeal) (hReferenceIdeal := hReferenceIdeal) (hPre_in_table_and_finite := hPre_in_table_and_finite)
-- ==== Pre_in_table_and_finite.lean ====
abbrev S48x32768 : Shape := ⟨2, ![48, 32768]⟩
abbrev S4x768 : Shape := ⟨2, ![4, 768]⟩
abbrev S768x768 : Shape := ⟨2, ![768, 768]⟩
abbrev S768 : Shape := ⟨1, ![768]⟩
abbrev S_ : Shape := ⟨0, ![]⟩

class Facts : Prop where
  bcast_S_S48x32768 : S_.BroadcastsInDim S48x32768 (![] : Fin 0 → Fin S48x32768.rank)
  reducesTo_S48x32768_S_d0_1 : S48x32768.ReducesTo [0, 1] S_
  h_S_ : 0 < S_.numel
  bcast_S_S4x768 : S_.BroadcastsInDim S4x768 (![] : Fin 0 → Fin S4x768.rank)
  reducesTo_S4x768_S_d0_1 : S4x768.ReducesTo [0, 1] S_
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_v5 : IVec S_ 1) (main_v10 : IVec S_ 1) (main_v14 : IVec S_ 1) (main_v15 : FVec F S768x768 .f32) : IVec S_ 1 :=
  let main_cst_6 : FVec F S_ .f32 := constant S_ .f32 0x7F800000#32
  let main_v16 : FVec F S768x768 .f32 := broadcastInDim S768x768 ![] bcast_S_S768x768 main_cst_6
  let main_v17 : IVec S768x768 1 := cmpf .olt main_v15 main_v16
  let main_c_7 : IVec S_ 1 := constantI S_ 1 1#1
  let main_v18 : IVec S_ 1 := (fun x v => Host.reduce IntOp.andi x v reducesTo_S768x768_S_d0_1 h_S_) main_v17 main_c_7
  let main_v19 : IVec S_ 1 := andi main_v5 main_v10
  let main_v20 : IVec S_ 1 := andi main_v19 main_v14
  let main_v21 : IVec S_ 1 := andi main_v20 main_v18
  main_v21

def fn {F : FTy → Type} [FloatOps F] (main_arg0 : IVec S48x32768 32) (main_arg1 : FVec F S4x768 .f32) (main_arg2 : FVec F S768x768 .f32) (main_arg3 : FVec F S768 .f32) : IVec S_ 1 :=
  let main_c : IVec S_ 32 := constantI S_ 32 0#32
  let main_v0 : IVec S48x32768 32 := broadcastInDim S48x32768 ![] bcast_S_S48x32768 main_c
  let main_v1 : IVec S48x32768 1 := cmpi .sge main_arg0 main_v0
  let main_c_0 : IVec S_ 32 := constantI S_ 32 201326592#32
  let main_v2 : IVec S48x32768 32 := broadcastInDim S48x32768 ![] bcast_S_S48x32768 main_c_0
  let main_v3 : IVec S48x32768 1 := cmpi .slt main_arg0 main_v2
  let main_v4 : IVec S48x32768 1 := andi main_v1 main_v3
  let main_c_1 : IVec S_ 1 := constantI S_ 1 1#1
  let main_v5 : IVec S_ 1 := (fun x v => Host.reduce IntOp.andi x v reducesTo_S48x32768_S_d0_1 h_S_) main_v4 main_c_1
  let main_c_2 : IVec S_ 32 := constantI S_ 32 32640#32
  let main_v6 : IVec S48x32768 32 := broadcastInDim S48x32768 ![] bcast_S_S48x32768 main_c_2
  let main_v7 : IVec S48x32768 32 := andi main_arg0 main_v6
  let main_c_3 : IVec S_ 32 := constantI S_ 32 32640#32
  let main_v8 : IVec S48x32768 32 := broadcastInDim S48x32768 ![] bcast_S_S48x32768 main_c_3
  let main_v9 : IVec S48x32768 1 := cmpi .ne main_v7 main_v8
  let main_c_4 : IVec S_ 1 := constantI S_ 1 1#1
  let main_v10 : IVec S_ 1 := (fun x v => Host.reduce IntOp.andi x v reducesTo_S48x32768_S_d0_1 h_S_) main_v9 main_c_4
  let main_v11 : FVec F S4x768 .f32 := Host.absf main_arg1
  let main_cst : FVec F S_ .f32 := constant S_ .f32 0x7F800000#32
  let main_v12 : FVec F S4x768 .f32 := broadcastInDim S4x768 ![] bcast_S_S4x768 main_cst
  let main_v13 : IVec S4x768 1 := cmpf .olt main_v11 main_v12
  let main_c_5 : IVec S_ 1 := constantI S_ 1 1#1
  let main_v14 : IVec S_ 1 := (fun x v => Host.reduce IntOp.andi x v reducesTo_S4x768_S_d0_1 h_S_) main_v13 main_c_5
  let main_v15 : FVec F S768x768 .f32 := Host.absf main_arg2
  fn_part1 (F := F) main_v5 main_v10 main_v14 main_v15
-- ==== Pre_indices_in_table.lean ====
abbrev S48x32768 : Shape := ⟨2, ![48, 32768]⟩
abbrev S4x768 : Shape := ⟨2, ![4, 768]⟩
abbrev S768x768 : Shape := ⟨2, ![768, 768]⟩
abbrev S768 : Shape := ⟨1, ![768]⟩
abbrev S_ : Shape := ⟨0, ![]⟩

class Facts : Prop where
  bcast_S_S48x32768 : S_.BroadcastsInDim S48x32768 (![] : Fin 0 → Fin S48x32768.rank)
  reducesTo_S48x32768_S_d0_1 : S48x32768.ReducesTo [0, 1] S_
  h_S_ : 0 < S_.numel

variable [Facts]

def fn {F : FTy → Type} [FloatOps F] (main_arg0 : IVec S48x32768 32) (main_arg1 : FVec F S4x768 .f32) (main_arg2 : FVec F S768x768 .f32) (main_arg3 : FVec F S768 .f32) : IVec S_ 1 :=
  let main_c : IVec S_ 32 := constantI S_ 32 0#32
  let main_v0 : IVec S48x32768 32 := broadcastInDim S48x32768 ![] bcast_S_S48x32768 main_c
  let main_v1 : IVec S48x32768 1 := cmpi .sge main_arg0 main_v0
  let main_c_0 : IVec S_ 32 := constantI S_ 32 201326592#32
  let main_v2 : IVec S48x32768 32 := broadcastInDim S48x32768 ![] bcast_S_S48x32768 main_c_0
  let main_v3 : IVec S48x32768 1 := cmpi .slt main_arg0 main_v2
  let main_v4 : IVec S48x32768 1 := andi main_v1 main_v3
  let main_c_1 : IVec S_ 1 := constantI S_ 1 1#1
  let main_v5 : IVec S_ 1 := (fun x v => Host.reduce IntOp.andi x v reducesTo_S48x32768_S_d0_1 h_S_) main_v4 main_c_1
  main_v5
-- ==== Kernel.lean ====
abbrev S48x32768 : Shape := ⟨2, ![48, 32768]⟩
abbrev S4x768 : Shape := ⟨2, ![4, 768]⟩
abbrev S768x768 : Shape := ⟨2, ![768, 768]⟩
abbrev S768 : Shape := ⟨1, ![768]⟩
abbrev S3072 : Shape := ⟨1, ![3072]⟩
abbrev S32768 : Shape := ⟨1, ![32768]⟩
abbrev S48x1024 : Shape := ⟨2, ![48, 1024]⟩
abbrev S1024 : Shape := ⟨1, ![1024]⟩
abbrev S_ : Shape := ⟨0, ![]⟩
abbrev S16 : Shape := ⟨1, ![16]⟩
abbrev S1x16 : Shape := ⟨2, ![1, 16]⟩
abbrev S1x768 : Shape := ⟨2, ![1, 768]⟩
abbrev S8x768 : Shape := ⟨2, ![8, 768]⟩
abbrev S64x1x512 : Shape := ⟨3, ![64, 1, 512]⟩
abbrev S32768x768 : Shape := ⟨2, ![32768, 768]⟩
abbrev S1x1x512 : Shape := ⟨3, ![1, 1, 512]⟩
abbrev S512x768 : Shape := ⟨2, ![512, 768]⟩
abbrev S512 : Shape := ⟨1, ![512]⟩
abbrev S512x1 : Shape := ⟨2, ![512, 1]⟩

abbrev nBuf : Table → Nat
  | .hbm => 10
  | .local .tc .vmem => 7
  | .local .scVector .vmem => 3
  | _ => 0

abbrev bufTy : (tb : Table) → Fin (nBuf tb) → BufTy
  | .hbm, ⟨0, _⟩ => ⟨S48x32768, .i32⟩
  | .hbm, ⟨1, _⟩ => ⟨S4x768, .f32⟩
  | .hbm, ⟨2, _⟩ => ⟨S768x768, .f32⟩
  | .hbm, ⟨3, _⟩ => ⟨S768, .f32⟩
  | .hbm, ⟨4, _⟩ => ⟨S3072, .f32⟩
  | .hbm, ⟨5, _⟩ => ⟨S32768, .f32⟩
  | .hbm, ⟨6, _⟩ => ⟨S1x768, .f32⟩
  | .hbm, ⟨7, _⟩ => ⟨S8x768, .f32⟩
  | .hbm, ⟨8, _⟩ => ⟨S64x1x512, .f32⟩
  | .hbm, ⟨9, _⟩ => ⟨S32768x768, .f32⟩
  | .local .tc .vmem, ⟨0, _⟩ => ⟨S1x1x512, .f32⟩
  | .local .tc .vmem, ⟨1, _⟩ => ⟨S1x1x512, .f32⟩
  | .local .tc .vmem, ⟨2, _⟩ => ⟨S768x768, .f32⟩
  | .local .tc .vmem, ⟨3, _⟩ => ⟨S8x768, .f32⟩
  | .local .tc .vmem, ⟨4, _⟩ => ⟨S512x768, .f32⟩
  | .local .tc .vmem, ⟨5, _⟩ => ⟨S512x768, .f32⟩
  | .local .tc .vmem, ⟨6, _⟩ => ⟨S8x768, .f32⟩
  | .local .scVector .vmem, ⟨0, _⟩ => ⟨S48x1024, .i32⟩
  | .local .scVector .vmem, ⟨1, _⟩ => ⟨S3072, .f32⟩
  | .local .scVector .vmem, ⟨2, _⟩ => ⟨S1024, .f32⟩
  | _, _ => ⟨S48x32768, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_arg0_scv : Ref sig .scVector := ⟨.hbm, 0, rfl⟩
abbrev main_v0_scv : Ref sig .scVector := ⟨.hbm, 4, rfl⟩
abbrev main_v1_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc1_scratch0 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_2_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![0, v2.toNat]
@[reducible] def k0_t1_loop : Scf.Loop 32 :=
  let c0_i32_0 : BitVec 32 := 0#32
  let c64_i32 : BitVec 32 := 64#32
  let v3 : BitVec 32 := Scalar.addi c0_i32_0 c64_i32
  let c1_i32 : BitVec 32 := 1#32
  ⟨c0_i32_0, v3, c1_i32⟩
def k0_off2 (k0_t1 : Fin k0_t1_loop.trips) : Fin 2 → Nat :=
  let c0_i32_2 : BitVec 32 := 0#32
  let v6 : Index := Scalar.indexCast c0_i32_2
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v7 : Index := Scalar.indexCast v4
  ![0, v7.toNat]

def k0_chk1 (v10 : IVec S16 32) : Prop :=
  (∀ a x, ((![v10] : Fin 1 → IVec S16 32) a x).toNat < S3072.size a)
theorem k0_idx1_inb : ∀ (v10 : IVec S16 32) (k0_hw1 : k0_chk1 v10), ∀ a x, ((![v10] : Fin 1 → IVec S16 32) a x).toNat < S3072.size a := fun v10 k0_hw1 => k0_hw1
def k0_off3 (k0_t1 : Fin k0_t1_loop.trips) : Fin 2 → Nat :=
  let c1_i32_5 : BitVec 32 := 1#32
  let v17 : Index := Scalar.indexCast c1_i32_5
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v18 : Index := Scalar.indexCast v4
  ![1, v18.toNat]

def k0_chk2 (v21 : IVec S16 32) : Prop :=
  (∀ a x, ((![v21] : Fin 1 → IVec S16 32) a x).toNat < S3072.size a)
theorem k0_idx2_inb : ∀ (v21 : IVec S16 32) (k0_hw2 : k0_chk2 v21), ∀ a x, ((![v21] : Fin 1 → IVec S16 32) a x).toNat < S3072.size a := fun v21 k0_hw2 => k0_hw2
def k0_off4 (k0_t1 : Fin k0_t1_loop.trips) : Fin 2 → Nat :=
  let c2_i32_8 : BitVec 32 := 2#32
  let v28 : Index := Scalar.indexCast c2_i32_8
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v29 : Index := Scalar.indexCast v4
  ![2, v29.toNat]

def k0_chk3 (v32 : IVec S16 32) : Prop :=
  (∀ a x, ((![v32] : Fin 1 → IVec S16 32) a x).toNat < S3072.size a)
theorem k0_idx3_inb : ∀ (v32 : IVec S16 32) (k0_hw3 : k0_chk3 v32), ∀ a x, ((![v32] : Fin 1 → IVec S16 32) a x).toNat < S3072.size a := fun v32 k0_hw3 => k0_hw3
def k0_off5 (k0_t1 : Fin k0_t1_loop.trips) : Fin 2 → Nat :=
  let c3_i32 : BitVec 32 := 3#32
  let v39 : Index := Scalar.indexCast c3_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v40 : Index := Scalar.indexCast v4
  ![3, v40.toNat]

def k0_chk4 (v43 : IVec S16 32) : Prop :=
  (∀ a x, ((![v43] : Fin 1 → IVec S16 32) a x).toNat < S3072.size a)
theorem k0_idx4_inb : ∀ (v43 : IVec S16 32) (k0_hw4 : k0_chk4 v43), ∀ a x, ((![v43] : Fin 1 → IVec S16 32) a x).toNat < S3072.size a := fun v43 k0_hw4 => k0_hw4
def k0_off6 (k0_t1 : Fin k0_t1_loop.trips) : Fin 2 → Nat :=
  let c4_i32 : BitVec 32 := 4#32
  let v50 : Index := Scalar.indexCast c4_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v51 : Index := Scalar.indexCast v4
  ![4, v51.toNat]

def k0_chk5 (v54 : IVec S16 32) : Prop :=
  (∀ a x, ((![v54] : Fin 1 → IVec S16 32) a x).toNat < S3072.size a)
theorem k0_idx5_inb : ∀ (v54 : IVec S16 32) (k0_hw5 : k0_chk5 v54), ∀ a x, ((![v54] : Fin 1 → IVec S16 32) a x).toNat < S3072.size a := fun v54 k0_hw5 => k0_hw5
def k0_off7 (k0_t1 : Fin k0_t1_loop.trips) : Fin 2 → Nat :=
  let c5_i32 : BitVec 32 := 5#32
  let v61 : Index := Scalar.indexCast c5_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v62 : Index := Scalar.indexCast v4
  ![5, v62.toNat]

def k0_chk6 (v65 : IVec S16 32) : Prop :=
  (∀ a x, ((![v65] : Fin 1 → IVec S16 32) a x).toNat < S3072.size a)
theorem k0_idx6_inb : ∀ (v65 : IVec S16 32) (k0_hw6 : k0_chk6 v65), ∀ a x, ((![v65] : Fin 1 → IVec S16 32) a x).toNat < S3072.size a := fun v65 k0_hw6 => k0_hw6
def k0_off8 (k0_t1 : Fin k0_t1_loop.trips) : Fin 2 → Nat :=
  let c6_i32 : BitVec 32 := 6#32
  let v72 : Index := Scalar.indexCast c6_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v73 : Index := Scalar.indexCast v4
  ![6, v73.toNat]

def k0_chk7 (v76 : IVec S16 32) : Prop :=
  (∀ a x, ((![v76] : Fin 1 → IVec S16 32) a x).toNat < S3072.size a)
theorem k0_idx7_inb : ∀ (v76 : IVec S16 32) (k0_hw7 : k0_chk7 v76), ∀ a x, ((![v76] : Fin 1 → IVec S16 32) a x).toNat < S3072.size a := fun v76 k0_hw7 => k0_hw7
def k0_off9 (k0_t1 : Fin k0_t1_loop.trips) : Fin 2 → Nat :=
  let c7_i32 : BitVec 32 := 7#32
  let v83 : Index := Scalar.indexCast c7_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v84 : Index := Scalar.indexCast v4
  ![7, v84.toNat]

def k0_chk8 (v87 : IVec S16 32) : Prop :=
  (∀ a x, ((![v87] : Fin 1 → IVec S16 32) a x).toNat < S3072.size a)
theorem k0_idx8_inb : ∀ (v87 : IVec S16 32) (k0_hw8 : k0_chk8 v87), ∀ a x, ((![v87] : Fin 1 → IVec S16 32) a x).toNat < S3072.size a := fun v87 k0_hw8 => k0_hw8
def k0_off10 (k0_t1 : Fin k0_t1_loop.trips) : Fin 2 → Nat :=
  let c8_i32 : BitVec 32 := 8#32
  let v94 : Index := Scalar.indexCast c8_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v95 : Index := Scalar.indexCast v4
  ![8, v95.toNat]

def k0_chk9 (v98 : IVec S16 32) : Prop :=
  (∀ a x, ((![v98] : Fin 1 → IVec S16 32) a x).toNat < S3072.size a)
theorem k0_idx9_inb : ∀ (v98 : IVec S16 32) (k0_hw9 : k0_chk9 v98), ∀ a x, ((![v98] : Fin 1 → IVec S16 32) a x).toNat < S3072.size a := fun v98 k0_hw9 => k0_hw9
def k0_off11 (k0_t1 : Fin k0_t1_loop.trips) : Fin 2 → Nat :=
  let c9_i32 : BitVec 32 := 9#32
  let v105 : Index := Scalar.indexCast c9_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v106 : Index := Scalar.indexCast v4
  ![9, v106.toNat]

def k0_chk10 (v109 : IVec S16 32) : Prop :=
  (∀ a x, ((![v109] : Fin 1 → IVec S16 32) a x).toNat < S3072.size a)
theorem k0_idx10_inb : ∀ (v109 : IVec S16 32) (k0_hw10 : k0_chk10 v109), ∀ a x, ((![v109] : Fin 1 → IVec S16 32) a x).toNat < S3072.size a := fun v109 k0_hw10 => k0_hw10
def k0_off12 (k0_t1 : Fin k0_t1_loop.trips) : Fin 2 → Nat :=
  let c10_i32 : BitVec 32 := 10#32
  let v116 : Index := Scalar.indexCast c10_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v117 : Index := Scalar.indexCast v4
  ![10, v117.toNat]

def k0_chk11 (v120 : IVec S16 32) : Prop :=
  (∀ a x, ((![v120] : Fin 1 → IVec S16 32) a x).toNat < S3072.size a)
theorem k0_idx11_inb : ∀ (v120 : IVec S16 32) (k0_hw11 : k0_chk11 v120), ∀ a x, ((![v120] : Fin 1 → IVec S16 32) a x).toNat < S3072.size a := fun v120 k0_hw11 => k0_hw11
def k0_off13 (k0_t1 : Fin k0_t1_loop.trips) : Fin 2 → Nat :=
  let c11_i32 : BitVec 32 := 11#32
  let v127 : Index := Scalar.indexCast c11_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v128 : Index := Scalar.indexCast v4
  ![11, v128.toNat]

def k0_chk12 (v131 : IVec S16 32) : Prop :=
  (∀ a x, ((![v131] : Fin 1 → IVec S16 32) a x).toNat < S3072.size a)
theorem k0_idx12_inb : ∀ (v131 : IVec S16 32) (k0_hw12 : k0_chk12 v131), ∀ a x, ((![v131] : Fin 1 → IVec S16 32) a x).toNat < S3072.size a := fun v131 k0_hw12 => k0_hw12
def k0_off14 (k0_t1 : Fin k0_t1_loop.trips) : Fin 2 → Nat :=
  let c12_i32 : BitVec 32 := 12#32
  let v138 : Index := Scalar.indexCast c12_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v139 : Index := Scalar.indexCast v4
  ![12, v139.toNat]

def k0_chk13 (v142 : IVec S16 32) : Prop :=
  (∀ a x, ((![v142] : Fin 1 → IVec S16 32) a x).toNat < S3072.size a)
theorem k0_idx13_inb : ∀ (v142 : IVec S16 32) (k0_hw13 : k0_chk13 v142), ∀ a x, ((![v142] : Fin 1 → IVec S16 32) a x).toNat < S3072.size a := fun v142 k0_hw13 => k0_hw13
def k0_off15 (k0_t1 : Fin k0_t1_loop.trips) : Fin 2 → Nat :=
  let c13_i32 : BitVec 32 := 13#32
  let v149 : Index := Scalar.indexCast c13_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v150 : Index := Scalar.indexCast v4
  ![13, v150.toNat]

def k0_chk14 (v153 : IVec S16 32) : Prop :=
  (∀ a x, ((![v153] : Fin 1 → IVec S16 32) a x).toNat < S3072.size a)
theorem k0_idx14_inb : ∀ (v153 : IVec S16 32) (k0_hw14 : k0_chk14 v153), ∀ a x, ((![v153] : Fin 1 → IVec S16 32) a x).toNat < S3072.size a := fun v153 k0_hw14 => k0_hw14
def k0_off16 (k0_t1 : Fin k0_t1_loop.trips) : Fin 2 → Nat :=
  let c14_i32 : BitVec 32 := 14#32
  let v160 : Index := Scalar.indexCast c14_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v161 : Index := Scalar.indexCast v4
  ![14, v161.toNat]

def k0_chk15 (v164 : IVec S16 32) : Prop :=
  (∀ a x, ((![v164] : Fin 1 → IVec S16 32) a x).toNat < S3072.size a)
theorem k0_idx15_inb : ∀ (v164 : IVec S16 32) (k0_hw15 : k0_chk15 v164), ∀ a x, ((![v164] : Fin 1 → IVec S16 32) a x).toNat < S3072.size a := fun v164 k0_hw15 => k0_hw15
def k0_off17 (k0_t1 : Fin k0_t1_loop.trips) : Fin 2 → Nat :=
  let c15_i32 : BitVec 32 := 15#32
  let v171 : Index := Scalar.indexCast c15_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v172 : Index := Scalar.indexCast v4
  ![15, v172.toNat]

def k0_chk16 (v175 : IVec S16 32) : Prop :=
  (∀ a x, ((![v175] : Fin 1 → IVec S16 32) a x).toNat < S3072.size a)
theorem k0_idx16_inb : ∀ (v175 : IVec S16 32) (k0_hw16 : k0_chk16 v175), ∀ a x, ((![v175] : Fin 1 → IVec S16 32) a x).toNat < S3072.size a := fun v175 k0_hw16 => k0_hw16
def k0_off18 (k0_t1 : Fin k0_t1_loop.trips) : Fin 2 → Nat :=
  let c16_i32_37 : BitVec 32 := 16#32
  let v182 : Index := Scalar.indexCast c16_i32_37
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v183 : Index := Scalar.indexCast v4
  ![16, v183.toNat]

def k0_chk17 (v186 : IVec S16 32) : Prop :=
  (∀ a x, ((![v186] : Fin 1 → IVec S16 32) a x).toNat < S3072.size a)
theorem k0_idx17_inb : ∀ (v186 : IVec S16 32) (k0_hw17 : k0_chk17 v186), ∀ a x, ((![v186] : Fin 1 → IVec S16 32) a x).toNat < S3072.size a := fun v186 k0_hw17 => k0_hw17
def k0_off19 (k0_t1 : Fin k0_t1_loop.trips) : Fin 2 → Nat :=
  let c17_i32 : BitVec 32 := 17#32
  let v193 : Index := Scalar.indexCast c17_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v194 : Index := Scalar.indexCast v4
  ![17, v194.toNat]

def k0_chk18 (v197 : IVec S16 32) : Prop :=
  (∀ a x, ((![v197] : Fin 1 → IVec S16 32) a x).toNat < S3072.size a)
theorem k0_idx18_inb : ∀ (v197 : IVec S16 32) (k0_hw18 : k0_chk18 v197), ∀ a x, ((![v197] : Fin 1 → IVec S16 32) a x).toNat < S3072.size a := fun v197 k0_hw18 => k0_hw18
def k0_off20 (k0_t1 : Fin k0_t1_loop.trips) : Fin 2 → Nat :=
  let c18_i32 : BitVec 32 := 18#32
  let v204 : Index := Scalar.indexCast c18_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v205 : Index := Scalar.indexCast v4
  ![18, v205.toNat]

def k0_chk19 (v208 : IVec S16 32) : Prop :=
  (∀ a x, ((![v208] : Fin 1 → IVec S16 32) a x).toNat < S3072.size a)
theorem k0_idx19_inb : ∀ (v208 : IVec S16 32) (k0_hw19 : k0_chk19 v208), ∀ a x, ((![v208] : Fin 1 → IVec S16 32) a x).toNat < S3072.size a := fun v208 k0_hw19 => k0_hw19
def k0_off21 (k0_t1 : Fin k0_t1_loop.trips) : Fin 2 → Nat :=
  let c19_i32 : BitVec 32 := 19#32
  let v215 : Index := Scalar.indexCast c19_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v216 : Index := Scalar.indexCast v4
  ![19, v216.toNat]

def k0_chk20 (v219 : IVec S16 32) : Prop :=
  (∀ a x, ((![v219] : Fin 1 → IVec S16 32) a x).toNat < S3072.size a)
theorem k0_idx20_inb : ∀ (v219 : IVec S16 32) (k0_hw20 : k0_chk20 v219), ∀ a x, ((![v219] : Fin 1 → IVec S16 32) a x).toNat < S3072.size a := fun v219 k0_hw20 => k0_hw20
def k0_off22 (k0_t1 : Fin k0_t1_loop.trips) : Fin 2 → Nat :=
  let c20_i32 : BitVec 32 := 20#32
  let v226 : Index := Scalar.indexCast c20_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v227 : Index := Scalar.indexCast v4
  ![20, v227.toNat]

def k0_chk21 (v230 : IVec S16 32) : Prop :=
  (∀ a x, ((![v230] : Fin 1 → IVec S16 32) a x).toNat < S3072.size a)
theorem k0_idx21_inb : ∀ (v230 : IVec S16 32) (k0_hw21 : k0_chk21 v230), ∀ a x, ((![v230] : Fin 1 → IVec S16 32) a x).toNat < S3072.size a := fun v230 k0_hw21 => k0_hw21
def k0_off23 (k0_t1 : Fin k0_t1_loop.trips) : Fin 2 → Nat :=
  let c21_i32 : BitVec 32 := 21#32
  let v237 : Index := Scalar.indexCast c21_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v238 : Index := Scalar.indexCast v4
  ![21, v238.toNat]

def k0_chk22 (v241 : IVec S16 32) : Prop :=
  (∀ a x, ((![v241] : Fin 1 → IVec S16 32) a x).toNat < S3072.size a)
theorem k0_idx22_inb : ∀ (v241 : IVec S16 32) (k0_hw22 : k0_chk22 v241), ∀ a x, ((![v241] : Fin 1 → IVec S16 32) a x).toNat < S3072.size a := fun v241 k0_hw22 => k0_hw22
def k0_off24 (k0_t1 : Fin k0_t1_loop.trips) : Fin 2 → Nat :=
  let c22_i32 : BitVec 32 := 22#32
  let v248 : Index := Scalar.indexCast c22_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v249 : Index := Scalar.indexCast v4
  ![22, v249.toNat]

def k0_chk23 (v252 : IVec S16 32) : Prop :=
  (∀ a x, ((![v252] : Fin 1 → IVec S16 32) a x).toNat < S3072.size a)
theorem k0_idx23_inb : ∀ (v252 : IVec S16 32) (k0_hw23 : k0_chk23 v252), ∀ a x, ((![v252] : Fin 1 → IVec S16 32) a x).toNat < S3072.size a := fun v252 k0_hw23 => k0_hw23
def k0_off25 (k0_t1 : Fin k0_t1_loop.trips) : Fin 2 → Nat :=
  let c23_i32 : BitVec 32 := 23#32
  let v259 : Index := Scalar.indexCast c23_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v260 : Index := Scalar.indexCast v4
  ![23, v260.toNat]

def k0_chk24 (v263 : IVec S16 32) : Prop :=
  (∀ a x, ((![v263] : Fin 1 → IVec S16 32) a x).toNat < S3072.size a)
theorem k0_idx24_inb : ∀ (v263 : IVec S16 32) (k0_hw24 : k0_chk24 v263), ∀ a x, ((![v263] : Fin 1 → IVec S16 32) a x).toNat < S3072.size a := fun v263 k0_hw24 => k0_hw24
def k0_off26 (k0_t1 : Fin k0_t1_loop.trips) : Fin 2 → Nat :=
  let c24_i32 : BitVec 32 := 24#32
  let v270 : Index := Scalar.indexCast c24_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v271 : Index := Scalar.indexCast v4
  ![24, v271.toNat]

def k0_chk25 (v274 : IVec S16 32) : Prop :=
  (∀ a x, ((![v274] : Fin 1 → IVec S16 32) a x).toNat < S3072.size a)
theorem k0_idx25_inb : ∀ (v274 : IVec S16 32) (k0_hw25 : k0_chk25 v274), ∀ a x, ((![v274] : Fin 1 → IVec S16 32) a x).toNat < S3072.size a := fun v274 k0_hw25 => k0_hw25
def k0_off27 (k0_t1 : Fin k0_t1_loop.trips) : Fin 2 → Nat :=
  let c25_i32 : BitVec 32 := 25#32
  let v281 : Index := Scalar.indexCast c25_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v282 : Index := Scalar.indexCast v4
  ![25, v282.toNat]

def k0_chk26 (v285 : IVec S16 32) : Prop :=
  (∀ a x, ((![v285] : Fin 1 → IVec S16 32) a x).toNat < S3072.size a)
theorem k0_idx26_inb : ∀ (v285 : IVec S16 32) (k0_hw26 : k0_chk26 v285), ∀ a x, ((![v285] : Fin 1 → IVec S16 32) a x).toNat < S3072.size a := fun v285 k0_hw26 => k0_hw26
def k0_off28 (k0_t1 : Fin k0_t1_loop.trips) : Fin 2 → Nat :=
  let c26_i32 : BitVec 32 := 26#32
  let v292 : Index := Scalar.indexCast c26_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v293 : Index := Scalar.indexCast v4
  ![26, v293.toNat]

def k0_chk27 (v296 : IVec S16 32) : Prop :=
  (∀ a x, ((![v296] : Fin 1 → IVec S16 32) a x).toNat < S3072.size a)
theorem k0_idx27_inb : ∀ (v296 : IVec S16 32) (k0_hw27 : k0_chk27 v296), ∀ a x, ((![v296] : Fin 1 → IVec S16 32) a x).toNat < S3072.size a := fun v296 k0_hw27 => k0_hw27
def k0_off29 (k0_t1 : Fin k0_t1_loop.trips) : Fin 2 → Nat :=
  let c27_i32 : BitVec 32 := 27#32
  let v303 : Index := Scalar.indexCast c27_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v304 : Index := Scalar.indexCast v4
  ![27, v304.toNat]

def k0_chk28 (v307 : IVec S16 32) : Prop :=
  (∀ a x, ((![v307] : Fin 1 → IVec S16 32) a x).toNat < S3072.size a)
theorem k0_idx28_inb : ∀ (v307 : IVec S16 32) (k0_hw28 : k0_chk28 v307), ∀ a x, ((![v307] : Fin 1 → IVec S16 32) a x).toNat < S3072.size a := fun v307 k0_hw28 => k0_hw28
def k0_off30 (k0_t1 : Fin k0_t1_loop.trips) : Fin 2 → Nat :=
  let c28_i32 : BitVec 32 := 28#32
  let v314 : Index := Scalar.indexCast c28_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v315 : Index := Scalar.indexCast v4
  ![28, v315.toNat]

def k0_chk29 (v318 : IVec S16 32) : Prop :=
  (∀ a x, ((![v318] : Fin 1 → IVec S16 32) a x).toNat < S3072.size a)
theorem k0_idx29_inb : ∀ (v318 : IVec S16 32) (k0_hw29 : k0_chk29 v318), ∀ a x, ((![v318] : Fin 1 → IVec S16 32) a x).toNat < S3072.size a := fun v318 k0_hw29 => k0_hw29
def k0_off31 (k0_t1 : Fin k0_t1_loop.trips) : Fin 2 → Nat :=
  let c29_i32 : BitVec 32 := 29#32
  let v325 : Index := Scalar.indexCast c29_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v326 : Index := Scalar.indexCast v4
  ![29, v326.toNat]

def k0_chk30 (v329 : IVec S16 32) : Prop :=
  (∀ a x, ((![v329] : Fin 1 → IVec S16 32) a x).toNat < S3072.size a)
theorem k0_idx30_inb : ∀ (v329 : IVec S16 32) (k0_hw30 : k0_chk30 v329), ∀ a x, ((![v329] : Fin 1 → IVec S16 32) a x).toNat < S3072.size a := fun v329 k0_hw30 => k0_hw30
def k0_off32 (k0_t1 : Fin k0_t1_loop.trips) : Fin 2 → Nat :=
  let c30_i32 : BitVec 32 := 30#32
  let v336 : Index := Scalar.indexCast c30_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v337 : Index := Scalar.indexCast v4
  ![30, v337.toNat]

def k0_chk31 (v340 : IVec S16 32) : Prop :=
  (∀ a x, ((![v340] : Fin 1 → IVec S16 32) a x).toNat < S3072.size a)
theorem k0_idx31_inb : ∀ (v340 : IVec S16 32) (k0_hw31 : k0_chk31 v340), ∀ a x, ((![v340] : Fin 1 → IVec S16 32) a x).toNat < S3072.size a := fun v340 k0_hw31 => k0_hw31
def k0_off33 (k0_t1 : Fin k0_t1_loop.trips) : Fin 2 → Nat :=
  let c31_i32 : BitVec 32 := 31#32
  let v347 : Index := Scalar.indexCast c31_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v348 : Index := Scalar.indexCast v4
  ![31, v348.toNat]

def k0_chk32 (v351 : IVec S16 32) : Prop :=
  (∀ a x, ((![v351] : Fin 1 → IVec S16 32) a x).toNat < S3072.size a)
theorem k0_idx32_inb : ∀ (v351 : IVec S16 32) (k0_hw32 : k0_chk32 v351), ∀ a x, ((![v351] : Fin 1 → IVec S16 32) a x).toNat < S3072.size a := fun v351 k0_hw32 => k0_hw32
def k0_off34 (k0_t1 : Fin k0_t1_loop.trips) : Fin 2 → Nat :=
  let c32_i32 : BitVec 32 := 32#32
  let v358 : Index := Scalar.indexCast c32_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v359 : Index := Scalar.indexCast v4
  ![32, v359.toNat]

def k0_chk33 (v362 : IVec S16 32) : Prop :=
  (∀ a x, ((![v362] : Fin 1 → IVec S16 32) a x).toNat < S3072.size a)
theorem k0_idx33_inb : ∀ (v362 : IVec S16 32) (k0_hw33 : k0_chk33 v362), ∀ a x, ((![v362] : Fin 1 → IVec S16 32) a x).toNat < S3072.size a := fun v362 k0_hw33 => k0_hw33
def k0_off35 (k0_t1 : Fin k0_t1_loop.trips) : Fin 2 → Nat :=
  let c33_i32 : BitVec 32 := 33#32
  let v369 : Index := Scalar.indexCast c33_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v370 : Index := Scalar.indexCast v4
  ![33, v370.toNat]

def k0_chk34 (v373 : IVec S16 32) : Prop :=
  (∀ a x, ((![v373] : Fin 1 → IVec S16 32) a x).toNat < S3072.size a)
theorem k0_idx34_inb : ∀ (v373 : IVec S16 32) (k0_hw34 : k0_chk34 v373), ∀ a x, ((![v373] : Fin 1 → IVec S16 32) a x).toNat < S3072.size a := fun v373 k0_hw34 => k0_hw34
def k0_off36 (k0_t1 : Fin k0_t1_loop.trips) : Fin 2 → Nat :=
  let c34_i32 : BitVec 32 := 34#32
  let v380 : Index := Scalar.indexCast c34_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v381 : Index := Scalar.indexCast v4
  ![34, v381.toNat]

def k0_chk35 (v384 : IVec S16 32) : Prop :=
  (∀ a x, ((![v384] : Fin 1 → IVec S16 32) a x).toNat < S3072.size a)
theorem k0_idx35_inb : ∀ (v384 : IVec S16 32) (k0_hw35 : k0_chk35 v384), ∀ a x, ((![v384] : Fin 1 → IVec S16 32) a x).toNat < S3072.size a := fun v384 k0_hw35 => k0_hw35
def k0_off37 (k0_t1 : Fin k0_t1_loop.trips) : Fin 2 → Nat :=
  let c35_i32 : BitVec 32 := 35#32
  let v391 : Index := Scalar.indexCast c35_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v392 : Index := Scalar.indexCast v4
  ![35, v392.toNat]

def k0_chk36 (v395 : IVec S16 32) : Prop :=
  (∀ a x, ((![v395] : Fin 1 → IVec S16 32) a x).toNat < S3072.size a)
theorem k0_idx36_inb : ∀ (v395 : IVec S16 32) (k0_hw36 : k0_chk36 v395), ∀ a x, ((![v395] : Fin 1 → IVec S16 32) a x).toNat < S3072.size a := fun v395 k0_hw36 => k0_hw36
def k0_off38 (k0_t1 : Fin k0_t1_loop.trips) : Fin 2 → Nat :=
  let c36_i32 : BitVec 32 := 36#32
  let v402 : Index := Scalar.indexCast c36_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v403 : Index := Scalar.indexCast v4
  ![36, v403.toNat]

def k0_chk37 (v406 : IVec S16 32) : Prop :=
  (∀ a x, ((![v406] : Fin 1 → IVec S16 32) a x).toNat < S3072.size a)
theorem k0_idx37_inb : ∀ (v406 : IVec S16 32) (k0_hw37 : k0_chk37 v406), ∀ a x, ((![v406] : Fin 1 → IVec S16 32) a x).toNat < S3072.size a := fun v406 k0_hw37 => k0_hw37
def k0_off39 (k0_t1 : Fin k0_t1_loop.trips) : Fin 2 → Nat :=
  let c37_i32 : BitVec 32 := 37#32
  let v413 : Index := Scalar.indexCast c37_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v414 : Index := Scalar.indexCast v4
  ![37, v414.toNat]

def k0_chk38 (v417 : IVec S16 32) : Prop :=
  (∀ a x, ((![v417] : Fin 1 → IVec S16 32) a x).toNat < S3072.size a)
theorem k0_idx38_inb : ∀ (v417 : IVec S16 32) (k0_hw38 : k0_chk38 v417), ∀ a x, ((![v417] : Fin 1 → IVec S16 32) a x).toNat < S3072.size a := fun v417 k0_hw38 => k0_hw38
def k0_off40 (k0_t1 : Fin k0_t1_loop.trips) : Fin 2 → Nat :=
  let c38_i32 : BitVec 32 := 38#32
  let v424 : Index := Scalar.indexCast c38_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v425 : Index := Scalar.indexCast v4
  ![38, v425.toNat]

def k0_chk39 (v428 : IVec S16 32) : Prop :=
  (∀ a x, ((![v428] : Fin 1 → IVec S16 32) a x).toNat < S3072.size a)
theorem k0_idx39_inb : ∀ (v428 : IVec S16 32) (k0_hw39 : k0_chk39 v428), ∀ a x, ((![v428] : Fin 1 → IVec S16 32) a x).toNat < S3072.size a := fun v428 k0_hw39 => k0_hw39
def k0_off41 (k0_t1 : Fin k0_t1_loop.trips) : Fin 2 → Nat :=
  let c39_i32 : BitVec 32 := 39#32
  let v435 : Index := Scalar.indexCast c39_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v436 : Index := Scalar.indexCast v4
  ![39, v436.toNat]

def k0_chk40 (v439 : IVec S16 32) : Prop :=
  (∀ a x, ((![v439] : Fin 1 → IVec S16 32) a x).toNat < S3072.size a)
theorem k0_idx40_inb : ∀ (v439 : IVec S16 32) (k0_hw40 : k0_chk40 v439), ∀ a x, ((![v439] : Fin 1 → IVec S16 32) a x).toNat < S3072.size a := fun v439 k0_hw40 => k0_hw40
def k0_off42 (k0_t1 : Fin k0_t1_loop.trips) : Fin 2 → Nat :=
  let c40_i32 : BitVec 32 := 40#32
  let v446 : Index := Scalar.indexCast c40_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v447 : Index := Scalar.indexCast v4
  ![40, v447.toNat]

def k0_chk41 (v450 : IVec S16 32) : Prop :=
  (∀ a x, ((![v450] : Fin 1 → IVec S16 32) a x).toNat < S3072.size a)
theorem k0_idx41_inb : ∀ (v450 : IVec S16 32) (k0_hw41 : k0_chk41 v450), ∀ a x, ((![v450] : Fin 1 → IVec S16 32) a x).toNat < S3072.size a := fun v450 k0_hw41 => k0_hw41
def k0_off43 (k0_t1 : Fin k0_t1_loop.trips) : Fin 2 → Nat :=
  let c41_i32 : BitVec 32 := 41#32
  let v457 : Index := Scalar.indexCast c41_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v458 : Index := Scalar.indexCast v4
  ![41, v458.toNat]

def k0_chk42 (v461 : IVec S16 32) : Prop :=
  (∀ a x, ((![v461] : Fin 1 → IVec S16 32) a x).toNat < S3072.size a)
theorem k0_idx42_inb : ∀ (v461 : IVec S16 32) (k0_hw42 : k0_chk42 v461), ∀ a x, ((![v461] : Fin 1 → IVec S16 32) a x).toNat < S3072.size a := fun v461 k0_hw42 => k0_hw42
def k0_off44 (k0_t1 : Fin k0_t1_loop.trips) : Fin 2 → Nat :=
  let c42_i32 : BitVec 32 := 42#32
  let v468 : Index := Scalar.indexCast c42_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v469 : Index := Scalar.indexCast v4
  ![42, v469.toNat]

def k0_chk43 (v472 : IVec S16 32) : Prop :=
  (∀ a x, ((![v472] : Fin 1 → IVec S16 32) a x).toNat < S3072.size a)
theorem k0_idx43_inb : ∀ (v472 : IVec S16 32) (k0_hw43 : k0_chk43 v472), ∀ a x, ((![v472] : Fin 1 → IVec S16 32) a x).toNat < S3072.size a := fun v472 k0_hw43 => k0_hw43
def k0_off45 (k0_t1 : Fin k0_t1_loop.trips) : Fin 2 → Nat :=
  let c43_i32 : BitVec 32 := 43#32
  let v479 : Index := Scalar.indexCast c43_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v480 : Index := Scalar.indexCast v4
  ![43, v480.toNat]

def k0_chk44 (v483 : IVec S16 32) : Prop :=
  (∀ a x, ((![v483] : Fin 1 → IVec S16 32) a x).toNat < S3072.size a)
theorem k0_idx44_inb : ∀ (v483 : IVec S16 32) (k0_hw44 : k0_chk44 v483), ∀ a x, ((![v483] : Fin 1 → IVec S16 32) a x).toNat < S3072.size a := fun v483 k0_hw44 => k0_hw44
def k0_off46 (k0_t1 : Fin k0_t1_loop.trips) : Fin 2 → Nat :=
  let c44_i32 : BitVec 32 := 44#32
  let v490 : Index := Scalar.indexCast c44_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v491 : Index := Scalar.indexCast v4
  ![44, v491.toNat]

def k0_chk45 (v494 : IVec S16 32) : Prop :=
  (∀ a x, ((![v494] : Fin 1 → IVec S16 32) a x).toNat < S3072.size a)
theorem k0_idx45_inb : ∀ (v494 : IVec S16 32) (k0_hw45 : k0_chk45 v494), ∀ a x, ((![v494] : Fin 1 → IVec S16 32) a x).toNat < S3072.size a := fun v494 k0_hw45 => k0_hw45
def k0_off47 (k0_t1 : Fin k0_t1_loop.trips) : Fin 2 → Nat :=
  let c45_i32 : BitVec 32 := 45#32
  let v501 : Index := Scalar.indexCast c45_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v502 : Index := Scalar.indexCast v4
  ![45, v502.toNat]

def k0_chk46 (v505 : IVec S16 32) : Prop :=
  (∀ a x, ((![v505] : Fin 1 → IVec S16 32) a x).toNat < S3072.size a)
theorem k0_idx46_inb : ∀ (v505 : IVec S16 32) (k0_hw46 : k0_chk46 v505), ∀ a x, ((![v505] : Fin 1 → IVec S16 32) a x).toNat < S3072.size a := fun v505 k0_hw46 => k0_hw46
def k0_off48 (k0_t1 : Fin k0_t1_loop.trips) : Fin 2 → Nat :=
  let c46_i32 : BitVec 32 := 46#32
  let v512 : Index := Scalar.indexCast c46_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v513 : Index := Scalar.indexCast v4
  ![46, v513.toNat]

def k0_chk47 (v516 : IVec S16 32) : Prop :=
  (∀ a x, ((![v516] : Fin 1 → IVec S16 32) a x).toNat < S3072.size a)
theorem k0_idx47_inb : ∀ (v516 : IVec S16 32) (k0_hw47 : k0_chk47 v516), ∀ a x, ((![v516] : Fin 1 → IVec S16 32) a x).toNat < S3072.size a := fun v516 k0_hw47 => k0_hw47
def k0_off49 (k0_t1 : Fin k0_t1_loop.trips) : Fin 2 → Nat :=
  let c47_i32 : BitVec 32 := 47#32
  let v523 : Index := Scalar.indexCast c47_i32
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v524 : Index := Scalar.indexCast v4
  ![47, v524.toNat]

def k0_chk48 (v527 : IVec S16 32) : Prop :=
  (∀ a x, ((![v527] : Fin 1 → IVec S16 32) a x).toNat < S3072.size a)
theorem k0_idx48_inb : ∀ (v527 : IVec S16 32) (k0_hw48 : k0_chk48 v527), ∀ a x, ((![v527] : Fin 1 → IVec S16 32) a x).toNat < S3072.size a := fun v527 k0_hw48 => k0_hw48
def k0_off50 (k0_t1 : Fin k0_t1_loop.trips) : Fin 1 → Nat :=
  let c0_i32_0 : BitVec 32 := 0#32
  let c1_i32 : BitVec 32 := 1#32
  let arg8 : BitVec 32 := Scf.iv c0_i32_0 c1_i32 k0_t1
  let c16_i32 : BitVec 32 := 16#32
  let v4 : BitVec 32 := Scalar.muli arg8 c16_i32
  let v534 : Index := Scalar.indexCast v4
  ![v534.toNat]
def k0_off51 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x1x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S48x32768 : Shape := ⟨2, ![48, 32768]⟩
abbrev S4x768 : Shape := ⟨2, ![4, 768]⟩
abbrev S768x768 : Shape := ⟨2, ![768, 768]⟩
abbrev S768 : Shape := ⟨1, ![768]⟩
abbrev S_ : Shape := ⟨0, ![]⟩
abbrev S3072 : Shape := ⟨1, ![3072]⟩
abbrev S48x32768x1 : Shape := ⟨3, ![48, 32768, 1]⟩
abbrev S32768 : Shape := ⟨1, ![32768]⟩
abbrev S32768x1 : Shape := ⟨2, ![32768, 1]⟩
abbrev S32768x768 : Shape := ⟨2, ![32768, 768]⟩
abbrev S1x768 : Shape := ⟨2, ![1, 768]⟩

abbrev nBuf : Space → Nat
  | .hbm => 33
  | .vmem => 0
  | .smem => 0
  | _ => 0

abbrev bufTy : (tb : Table) → Fin (tcTables nBuf tb) → BufTy
  | .hbm, ⟨0, _⟩ => ⟨S48x32768, .i32⟩
  | .hbm, ⟨1, _⟩ => ⟨S4x768, .f32⟩
  | .hbm, ⟨2, _⟩ => ⟨S768x768, .f32⟩
  | .hbm, ⟨3, _⟩ => ⟨S768, .f32⟩
  | .hbm, ⟨4, _⟩ => ⟨S_, .i32⟩
  | .hbm, ⟨5, _⟩ => ⟨S48x32768, .i32⟩
  | .hbm, ⟨6, _⟩ => ⟨S48x32768, .i32⟩
  | .hbm, ⟨7, _⟩ => ⟨S_, .i32⟩
  | .hbm, ⟨8, _⟩ => ⟨S48x32768, .i32⟩
  | .hbm, ⟨9, _⟩ => ⟨S48x32768, .i32⟩
  | .hbm, ⟨10, _⟩ => ⟨S48x32768, .i16⟩
  | .hbm, ⟨11, _⟩ => ⟨S48x32768, .bf16⟩
  | .hbm, ⟨12, _⟩ => ⟨S48x32768, .f32⟩
  | .hbm, ⟨13, _⟩ => ⟨S3072, .f32⟩
  | .hbm, ⟨14, _⟩ => ⟨S_, .i32⟩
  | .hbm, ⟨15, _⟩ => ⟨S48x32768, .i32⟩
  | .hbm, ⟨16, _⟩ => ⟨S48x32768, .i1⟩
  | .hbm, ⟨17, _⟩ => ⟨S_, .i32⟩
  | .hbm, ⟨18, _⟩ => ⟨S48x32768, .i32⟩
  | .hbm, ⟨19, _⟩ => ⟨S48x32768, .i32⟩
  | .hbm, ⟨20, _⟩ => ⟨S48x32768, .i32⟩
  | .hbm, ⟨21, _⟩ => ⟨S48x32768x1, .i32⟩
  | .hbm, ⟨22, _⟩ => ⟨S48x32768, .f32⟩
  | .hbm, ⟨23, _⟩ => ⟨S48x32768, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S32768x768, .f32⟩
  | .hbm, ⟨28, _⟩ => ⟨S768x768, .f32⟩
  | .hbm, ⟨29, _⟩ => ⟨S32768x768, .f32⟩
  | .hbm, ⟨30, _⟩ => ⟨S1x768, .f32⟩
  | .hbm, ⟨31, _⟩ => ⟨S32768x768, .f32⟩
  | .hbm, ⟨32, _⟩ => ⟨S32768x768, .f32⟩
  | _, _ => ⟨S48x32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.Names.lean ====
/-
  The program as the launch theorem sees it, the kernel's buffers as its body names them, and what one token's
  accumulation is: forty-eight words, each a table row in its high half and a bfloat16 weight in its low half.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ _ fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none

/-- The launch's handshakes, the pipeline's, and the counters of the tiles' own copies. -/
abbrev UH : Type := URounds (GSem nD τ sig) ℕ
abbrev UP : Type := URounds (GSem nD τ sig) Unit
abbrev UU : Type := UH × UP × Counters

/-- The assertions of this proof. -/
abbrev MM (F : FTy → Type) : Type _ := MT nD τ sig (HIx 1) (Elt F) ℕ UU ℕ

/-! ## One token's sum -/

variable [FloatOps F]

/-- The table row a packed word names. -/
def rowOf (w : BitVec 32) : S3072.Idx := fun | 0 => ⟨(w.sshiftRight' 16#32).toNat % 3072, Nat.mod_lt _ (by decide)⟩

/-- One packed word's contribution: its weight times the table's entry. -/
def term (tab : S3072.Idx → F .f32) (w : BitVec 32) : F .f32 :=
  FloatOps.mulf (FloatOps.ofBits .f32 (w <<< (16#32 : BitVec 32))) (tab (rowOf w))

/-- The first `n` words' contributions, added in order onto zero. -/
def tokSum (tab : S3072.Idx → F .f32) (col : ℕ → BitVec 32) : ℕ → F .f32
  | 0 => Scalar.ofBits .f32 0x00000000#32
  | n + 1 => FloatOps.addf (tokSum tab col n) (term tab (col n))

/-- Column `j` of a tile's block of words. -/
def colV (fp : S48x1024.Idx → BitVec 32) (j : Fin 1024) : ℕ → BitVec 32 :=
  fun k => fp (fun | 0 => ⟨k % 48, Nat.mod_lt _ (by decide)⟩ | 1 => j)

/-- Column `n` of the whole array of words. -/
def colA (pk : S48x32768.Idx → BitVec 32) (n : Fin 32768) : ℕ → BitVec 32 :=
  fun k => pk (fun | 0 => ⟨k % 48, Nat.mod_lt _ (by decide)⟩ | 1 => n)

/-- What a tile leaves at token `j` of its block. -/
def blkOut (tab : S3072.Idx → F .f32) (fp : S48x1024.Idx → BitVec 32) : S1024.Idx → F .f32 :=
  fun j => tokSum tab (colV fp (j 0)) 48

/-- What the call leaves at token `n`. -/
def allOut (tab : S3072.Idx → F .f32) (pk : S48x32768.Idx → BitVec 32) : S32768.Idx → F .f32 :=
  fun n => tokSum tab (colA pk (n 0)) 48

/-- Sixteen words of row `k`, as the body's load reads them. -/
def ldw (fp : S48x1024.Idx → BitVec 32) (off : Fin 2 → ℕ) (h : ∀ a, off a + S1x16.size a ≤ S48x1024.size a) : S1x16.Idx → BitVec 32 :=
  fun x => fp ((Rect.unit (s := S48x1024) off S1x16.size h).emb x)

/-- Every word names a row of the table. -/
def InTable (fp : S48x1024.Idx → BitVec 32) : Prop := ∀ i, (fp i).toNat < 3072 * 65536

theorem row_lt {w : BitVec 32} (h : w.toNat < 3072 * 65536) : (w.sshiftRight' 16#32).toNat < 3072 := by
  rw [BitVec.sshiftRight', BitVec.sshiftRight_eq_of_msb_false (by rw [BitVec.msb_eq_decide]; simp; omega), BitVec.toNat_ushiftRight, Nat.shiftRight_eq_div_pow]
  simp
  omega

theorem chk_word {fp : S48x1024.Idx → BitVec 32} (h : InTable fp) (off hin) :
    ∀ a x, ((![shrsi (shapeCast S16 (ldw fp off hin) shapeCasts_S1x16_S16) (broadcast S16 16#32)] : Fin 1 → IVec S16 32) a x).toNat < S3072.size a := by
  intro a x
  match a with
  | 0 =>
    show ((ldw fp off hin _).sshiftRight' 16#32).toNat < 3072
    exact row_lt (h _)

end Cert.Proof.Sc

end
-- ==== Proof.Trip.lean ====
/-
  One trip of the tile's loop: sixteen tokens' sums, forty-eight words each, stored at the trip's place in the tile's
  output block. The trip's operations are a load of sixteen words, the check that they name rows of the table, and the
  gather of those rows, forty-eight times over.
-/
module

public import proofs.«01_k».proof.Proof.Names

@[expose] public section

noncomputable section

namespace Cert.Proof.Sc

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The words' scratch, the table's and the output block's, as the body names them. -/
abbrev pV : Memref sig .scVector .vmem S48x1024 .i32 := Memref.whole cc0_scratch0
abbrev tV : Memref sig .scVector .vmem S3072 .f32 := Memref.whole cc0_scratch1
abbrev oV : Memref sig .scVector .vmem S1024 .f32 := Memref.whole cc0_scratch2

/-- The program index the kernel's body lives at, by its two coordinates. -/
abbrev cAt (i : grid0.Coords) : Fin τ.nSC := (i 0).castLE hcore0
abbrev sAt (i : grid0.Coords) : Fin τ.nSub := (i 1).castLE hsub0

section Steps

variable {d : Dev nD} {i : grid0.Coords} {α : Type}
  {Q : α → sProp (MM F)}

/-- The tile's words and its copy of the table, held. -/
def held2 (d : Dev nD) (i : grid0.Coords) (fp : S48x1024.Idx → BitVec 32) (ft : S3072.Idx → F .f32) : sProp (MM F) :=
  iprop(((pV).view.loc (SparseCore.V d (cAt i) (sAt i)) ↦{fullShare} (fp : Buf (Elt F) _)) ∗ ((tV).view.loc (SparseCore.V d (cAt i) (sAt i)) ↦{fullShare} (ft : Buf (Elt F) _)))

variable {fp : S48x1024.Idx → BitVec 32} {ft : S3072.Idx → F .f32} {R : sProp (MM F)}

abbrev EP (d : Dev nD) (i : grid0.Coords) := TpuEff nD τ sig (Elt F) Λ₀ (.scVector (cAt i) (sAt i))

/-- A load of sixteen words. -/
theorem step_load {off : Fin 2 → ℕ} {hin : ∀ a, off a + S1x16.size a ≤ S48x1024.size a} {hl}
    {k : (S1x16.Idx → BitVec 32) → Prog (EP (F := F) d i) α}
    (h : iprop(held2 d i fp ft ∗ R) ⊢ wp frame (wpE (defs₀ (F := F)) 𝒱₀ (SparseCore.V d (cAt i) (sAt i)) none) Set.univ (k (ldw fp off hin)) Q) :
    iprop(held2 d i fp ft ∗ R) ⊢ wp frame (wpE (defs₀ (F := F)) 𝒱₀ (SparseCore.V d (cAt i) (sAt i)) none) Set.univ
      (.op (.load pV (Rect.unit (s := S48x1024) off S1x16.size hin).toLoadRect hl) k) Q := by
  unfold held2 at h ⊢
  iintro ⟨⟨Hp, Ht⟩, HR⟩
  iapply (wp_load 𝒱₀ (SparseCore.V d (cAt i) (sAt i)) none Set.univ (m := pV) (S := Finset.univ) (q := fullShare) (Finset.subset_univ _)) $$ Hp; iintro Hp
  iapply h
  isplitl [Hp Ht]
  · isplitl [Hp]
    · iexact Hp
    · iexact Ht
  · iexact HR

/-- A gather out of the tile's table. -/
theorem step_idx {v : IVec S16 32} {hc : ∀ a x, ((![v] : Fin 1 → IVec S16 32) a x).toNat < S3072.size a} {hl}
    {k : (S16.Idx → F .f32) → Prog (EP (F := F) d i) α}
    (h : iprop(held2 d i fp ft ∗ R) ⊢ wp frame (wpE (defs₀ (F := F)) 𝒱₀ (SparseCore.V d (cAt i) (sAt i)) none) Set.univ (k (loadIdx (F := F) (e := .f32) ft ![v] hc)) Q) :
    iprop(held2 d i fp ft ∗ R) ⊢ wp frame (wpE (defs₀ (F := F)) 𝒱₀ (SparseCore.V d (cAt i) (sAt i)) none) Set.univ
      (SparseCore.vectorLoadIdx tV ![v] hc hl >>= k) Q := by
  unfold held2 at h ⊢
  iintro ⟨⟨Hp, Ht⟩, HR⟩
  iapply (SparseCore.wp_vectorLoadIdx 𝒱₀ (SparseCore.V d (cAt i) (sAt i)) none Set.univ (base := tV) (S := Finset.univ) (q := fullShare) (Finset.subset_univ _)) $$ Ht; iintro Ht
  rw [show View.read (Elt F) (tV.access (Rect.whole S3072)) ft = ft from Memref.read_access_whole _ _ _]
  iapply h
  isplitl [Hp Ht]
  · isplitl [Hp]
    · iexact Hp
    · iexact Ht
  · iexact HR

/-- A side condition, met. -/
theorem step_assume {P : Prop} {dec : Decidable P} (hP : P)
    {k : PLift P → Prog (EP (F := F) d i) α}
    (h : ∀ hP : P, iprop(held2 d i fp ft ∗ R) ⊢ wp frame (wpE (defs₀ (F := F)) 𝒱₀ (SparseCore.V d (cAt i) (sAt i)) none) Set.univ (k ⟨hP⟩) Q) :
    iprop(held2 d i fp ft ∗ R) ⊢ wp frame (wpE (defs₀ (F := F)) 𝒱₀ (SparseCore.V d (cAt i) (sAt i)) none) Set.univ
      (.op (.assume P dec) k) Q := by
  rw [wp_assume_of _ _ _ _ hP]
  exact h hP

/-- A value returned. -/
theorem step_ret {v : α} {A : sProp (MM F)} (h : A ⊢ Q v) :
    A ⊢ wp frame (wpE (defs₀ (F := F)) 𝒱₀ (SparseCore.V d (cAt i) (sAt i)) none) Set.univ (.ret v) Q := by
  rw [wp_ret]
  exact h.trans fupd_intro

/-- A program run before another. -/
theorem step_bind {β : Type} {p : Prog (EP (F := F) d i) β} {k : β → Prog (EP (F := F) d i) α} {A : sProp (MM F)}
    (h : A ⊢ wp frame (wpE (defs₀ (F := F)) 𝒱₀ (SparseCore.V d (cAt i) (sAt i)) none) Set.univ p
      (fun a => wp frame (wpE (defs₀ (F := F)) 𝒱₀ (SparseCore.V d (cAt i) (sAt i)) none) Set.univ (k a) Q)) :
    A ⊢ wp frame (wpE (defs₀ (F := F)) 𝒱₀ (SparseCore.V d (cAt i) (sAt i)) none) Set.univ (p >>= k) Q := by
  rw [wp_bind]
  exact h

end Steps

/-! ## The sixteen lanes' sums -/

theorem lane_lt (t : Fin k0_t1_loop.trips) (l : S16.Idx) : 16 * t.val + (l 0).val < 1024 := by
  have h1 : t.val < 64 := t.isLt
  have h2 : (l 0).val < 16 := (l 0).isLt
  omega

/-- The words of lane `l` of trip `t`. -/
def laneCol (fp : S48x1024.Idx → BitVec 32) (t : Fin k0_t1_loop.trips) (l : S16.Idx) : ℕ → BitVec 32 :=
  colV fp ⟨16 * t.val + (l 0).val, lane_lt t l⟩

/-- The sixteen lanes' sums after `n` words. -/
def accV (ft : S3072.Idx → F .f32) (fp : S48x1024.Idx → BitVec 32) (t : Fin k0_t1_loop.trips) (n : ℕ) : S16.Idx → F .f32 :=
  fun l => tokSum ft (laneCol fp t l) n

/-- A load's word in a lane is the lane's column's. -/
theorem ldw_lane (fp : S48x1024.Idx → BitVec 32) (t : Fin k0_t1_loop.trips) {n : ℕ} (hn : n < 48)
    (hin : ∀ a, (![n, 16 * t.val] : Fin 2 → ℕ) a + S1x16.size a ≤ S48x1024.size a) (l : S16.Idx) :
    shapeCast S16 (ldw fp ![n, 16 * t.val] hin) shapeCasts_S1x16_S16 l = laneCol fp t l n := by
  unfold shapeCast
  rw [show Shape.reshapeEquiv shapeCasts_S1x16_S16 l = (Fin.cons ⟨0, Nat.one_pos⟩ l : S1x16.Idx) from Shape.reshapeEquiv_cons_one (d := ![16]) _ l]
  unfold ldw laneCol colV
  congr 1
  funext a
  match a with
  | 0 => apply Fin.ext; show n + 1 * 0 = n % 48; omega
  | 1 => apply Fin.ext; show 16 * t.val + 1 * (l 0).val = 16 * t.val + (l 0).val; omega

/-- One word more, in all sixteen lanes. -/
theorem acc_step {ft : S3072.Idx → F .f32} {fp : S48x1024.Idx → BitVec 32} (hfp : InTable fp) {t : Fin k0_t1_loop.trips} {n : ℕ} (hn : n < 48)
    {acc : FVec F S16 .f32} (hacc : acc = accV ft fp t n)
    {off : Fin 2 → ℕ} (hoff : off = ![n, 16 * t.val])
    {hin : ∀ a, off a + S1x16.size a ≤ S48x1024.size a}
    {hc : ∀ a x, ((![shrsi (shapeCast S16 (ldw fp off hin) shapeCasts_S1x16_S16) (broadcast S16 16#32)] : Fin 1 → IVec S16 32) a x).toNat < S3072.size a} :
    addf acc (mulf (bitcastToFloat .f32 (shli (shapeCast S16 (ldw fp off hin) shapeCasts_S1x16_S16) (broadcast S16 16#32)))
      (loadIdx (F := F) (e := .f32) ft ![shrsi (shapeCast S16 (ldw fp off hin) shapeCasts_S1x16_S16) (broadcast S16 16#32)] hc)) = accV ft fp t (n + 1) := by
  subst hoff
  subst hacc
  funext l
  have e := ldw_lane fp t hn hin l
  have h1 : shli (shapeCast S16 (ldw fp ![n, 16 * t.val] hin) shapeCasts_S1x16_S16) (broadcast S16 16#32) l = laneCol fp t l n <<< (16#32 : BitVec 32) := by
    rw [← e]; rfl
  have h2 : idxAt ![shrsi (shapeCast S16 (ldw fp ![n, 16 * t.val] hin) shapeCasts_S1x16_S16) (broadcast S16 16#32)] hc l = rowOf (laneCol fp t l n) := by
    funext a
    match a with
    | 0 =>
      apply Fin.ext
      have hr := row_lt (hfp (fun | 0 => ⟨n % 48, Nat.mod_lt _ (by decide)⟩ | 1 => ⟨16 * t.val + (l 0).val, lane_lt t l⟩))
      show ((shapeCast S16 (ldw fp ![n, 16 * t.val] hin) shapeCasts_S1x16_S16 l).sshiftRight' 16#32).toNat = ((laneCol fp t l n).sshiftRight' 16#32).toNat % 3072
      rw [e]
      exact (Nat.mod_eq_of_lt hr).symm
  unfold addf mulf bitcastToFloat loadIdx
  beta_reduce
  rw [h1, h2]
  rfl

/-- The trip's end: a load whose value is not read, and the store of the sixteen sums. -/
theorem step_out {ft : S3072.Idx → F .f32} {fp : S48x1024.Idx → BitVec 32} {d : Dev nD} {i : grid0.Coords} (t : Fin k0_t1_loop.trips)
    {g : S1024.Idx → F .f32} {v w : S16.Idx → F .f32} (hv : v = w) {hl hs hm} :
    iprop(held2 d i fp ft ∗ ((oV).view.loc (SparseCore.V d (cAt i) (sAt i)) ↦{fullShare} (g : Buf (Elt F) _)))
      ⊢ wp frame (wpE (defs₀ (F := F)) 𝒱₀ (SparseCore.V d (cAt i) (sAt i)) none) Set.univ
        (.op (.load oV (Rect.unit (s := S1024) (k0_off50 t) S16.size (k0_off50_inb t)).toLoadRect hl) fun _ =>
          .op (.store oV (Rect.unit (s := S1024) (k0_off50 t) S16.size (k0_off50_inb t)) v Finset.univ hs hm) fun _ => .ret PUnit.unit)
        (fun _ => iprop(held2 d i fp ft ∗ ((oV).view.loc (SparseCore.V d (cAt i) (sAt i)) ↦{fullShare}
          (((oV).access (Rect.unit (s := S1024) (k0_off50 t) S16.size (k0_off50_inb t))).write (Elt F) g w Finset.univ : Buf (Elt F) _)))) := by
  subst hv
  iintro ⟨H2, Ho⟩
  iapply (wp_load 𝒱₀ (SparseCore.V d (cAt i) (sAt i)) none Set.univ (m := oV) (S := Finset.univ) (q := fullShare) (Finset.subset_univ _)) $$ Ho; iintro Ho
  iapply (wp_store 𝒱₀ (SparseCore.V d (cAt i) (sAt i)) none Set.univ (m := oV) (r := Rect.unit (s := S1024) (k0_off50 t) S16.size (k0_off50_inb t)) (S := Finset.univ) (Finset.subset_univ _)) $$ Ho; iintro Ho
  rw [wp_ret]
  iapply fupd_intro
  isplitl [H2]
  · iexact H2
  · iexact Ho

/-- One trip: the tile's words and table unchanged, the sixteen sums stored at the trip's place. -/
theorem trip_run {fp : S48x1024.Idx → BitVec 32} (hfp : InTable fp) (ft : S3072.Idx → F .f32) (d : Dev nD) (i : grid0.Coords) (t : Fin k0_t1_loop.trips)
    (g : S1024.Idx → F .f32) (r0 r1 r2 : DmaSems sig S_) (a2 h2 a3 h3 a4 h4 h5 h6 h7) :
    iprop(held2 d i fp ft ∗ ((oV).view.loc (SparseCore.V d (cAt i) (sAt i)) ↦{fullShare} (g : Buf (Elt F) _)))
      ⊢ wp frame (wpE (defs₀ (F := F)) 𝒱₀ (SparseCore.V d (cAt i) (sAt i)) none) Set.univ (k0_t1_body i a2 h2 a3 h3 a4 h4 pV h5 tV h6 oV h7 r0 r1 r2 t ⟨⟩)
        (fun _ => iprop(held2 d i fp ft ∗ ((oV).view.loc (SparseCore.V d (cAt i) (sAt i)) ↦{fullShare}
          (((oV).access (Rect.unit (s := S1024) (k0_off50 t) S16.size (k0_off50_inb t))).write (Elt F) g (accV ft fp t 48) Finset.univ : Buf (Elt F) _)))) := by
  unfold k0_t1_body
  simp only [Prog.bind_lift]
  repeat (first
    | (with_reducible refine step_load ?_)
    | ((with_reducible refine step_assume ?_ ?_); · exact chk_word hfp _ _
       intro _)
    | (with_reducible refine step_idx ?_)
    | (with_reducible refine step_ret ?_)
    | (simp only [Prog.bind_lift, Prog.pure_eq_ret])
    | ((with_reducible refine step_bind ?_); first
        | (rw [k0_part13_eq_skeleton]; unfold k0_part13_skel)
        | (rw [k0_part1_eq_skeleton]; unfold k0_part1_skel)
        | (rw [k0_part2_eq_skeleton]; unfold k0_part2_skel)
        | (rw [k0_part3_eq_skeleton]; unfold k0_part3_skel)
        | (rw [k0_part4_eq_skeleton]; unfold k0_part4_skel)
        | (rw [k0_part5_eq_skeleton]; unfold k0_part5_skel)
        | (rw [k0_part6_eq_skeleton]; unfold k0_part6_skel)
        | (rw [k0_part7_eq_skeleton]; unfold k0_part7_skel)
        | (rw [k0_part8_eq_skeleton]; unfold k0_part8_skel)
        | (rw [k0_part9_eq_skeleton]; unfold k0_part9_skel)
        | (rw [k0_part10_eq_skeleton]; unfold k0_part10_skel)
        | (rw [k0_part11_eq_skeleton]; unfold k0_part11_skel)
        | (rw [k0_part12_eq_skeleton]; unfold k0_part12_skel))
    )
  refine step_out t ?_
  repeat (refine acc_step hfp (by omega) ?_ (by simp only [k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq]))
  rfl

end Cert.Proof.Sc

end
-- ==== Proof.Tile.lean ====
/-
  One tile: the fetch of its columns of words and of the whole table, the sixty-four trips, and the write-out of its
  1024 sums.
-/
module

public import proofs.«01_k».proof.Proof.Trip

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev wLoc (d : Dev nD) : Loc nD τ sig := (SparseCore.T d).loc main_arg0
abbrev xLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

/-- The words', the table's and the output's arrays as a vector subcore names them. -/
abbrev wA : Memref sig .scVector .hbm S48x32768 .i32 := Memref.whole main_arg0_scv
abbrev tA : Memref sig .scVector .hbm S3072 .f32 := Memref.whole main_v0_scv
abbrev oA : Memref sig .scVector .hbm S32768 .f32 := Memref.whole main_v1_scv

/-- A tile's columns of words and block of the output, as its body slices them. -/
abbrev wR (L : grid0.Coords) : Rect S48x32768 := Rect.unit (s := S48x32768) (k0_off1 L) S48x1024.size (k0_off1_inb L)
abbrev oR (L : grid0.Coords) : Rect S32768 := Rect.unit (s := S32768) (k0_off51 L) S1024.size (k0_off51_inb L)
abbrev wK (L : grid0.Coords) : Memref sig .scVector .hbm S48x1024 .i32 := wA.slice (wR L) (fun _ => rfl)
abbrev oK (L : grid0.Coords) : Memref sig .scVector .hbm S1024 .f32 := oA.slice (oR L) (fun _ => rfl)

abbrev VT (d : Dev nD) (L : grid0.Coords) : Thread nD τ := V d (cAt L) (sAt L)

variable (d : Dev nD) (L : grid0.Coords)

abbrev csem (k : Nat) (hk : k < 3 := by decide) : DmaSem sig := ⟨k, Nat.lt_of_lt_of_le hk (by decide)⟩
abbrev dcell (d : Dev nD) (c : Fin τ.nSC) (i : Fin τ.nSub) (k : Fin 3) : GSem nD τ sig := (V d c i, .dma (csem k.val k.isLt))
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0)

/-- The tile's columns of the words, as its scratch holds them. -/
def blkW (w : S48x32768.Idx → BitVec 32) (L : grid0.Coords) : S48x1024.Idx → BitVec 32 := fun x => w ((wR L).emb x)

/-- What the tile's loop keeps: the words and the table, and the sums of the tokens already done. -/
def inv (fp : S48x1024.Idx → BitVec 32) (tab : S3072.Idx → F .f32) (t : Nat) (_ : PUnit) : sProp 𝕄 :=
  iprop(held2 d L fp tab ∗ ∃ g : S1024.Idx → F .f32, ⌜∀ j : S1024.Idx, (j 0).val < 16 * t → g j = blkOut tab fp j⌝
    ∗ ((oV).view.loc (VT d L) ↦{fullShare} (g : Buf (Elt F) _)))

/-- A trip's store keeps the sums done and adds sixteen. -/
theorem trip_keeps (fp : S48x1024.Idx → BitVec 32) (tab : S3072.Idx → F .f32) (t : Fin k0_t1_loop.trips) (g : S1024.Idx → F .f32)
    (hg : ∀ j : S1024.Idx, (j 0).val < 16 * t.val → g j = blkOut tab fp j) (j : S1024.Idx) (hj : (j 0).val < 16 * (t.val + 1)) :
    ((oV).access (Rect.unit (s := S1024) (k0_off50 t) S16.size (k0_off50_inb t))).write (Elt F) g (accV tab fp t 48) Finset.univ j = blkOut tab fp j := by
  have e50 : k0_off50 t 0 = 16 * t.val := by rw [k0_off50_eq]; rfl
  by_cases h : (j 0).val < 16 * t.val
  · rw [View.write_of_not_mem, hg j h]
    intro hm
    obtain ⟨x, -, hx⟩ := Finset.mem_map.mp hm
    have := congrArg (fun y : S1024.Idx => (y 0).val) hx
    change k0_off50 t 0 + 1 * (x 0).val = (j 0).val at this
    omega
  · let l : S16.Idx := fun | 0 => ⟨(j 0).val - 16 * t.val, by show _ < 16; omega⟩
    have hl : (l 0).val = (j 0).val - 16 * t.val := rfl
    have hjl : ((oV).access (Rect.unit (s := S1024) (k0_off50 t) S16.size (k0_off50_inb t))).emb l = j := by
      funext a
      match a with
      | 0 =>
        apply Fin.ext
        show k0_off50 t 0 + 1 * (l 0).val = (j 0).val
        omega
    rw [← hjl, View.write_emb_of_mem (v := (oV).access (Rect.unit (s := S1024) (k0_off50 t) S16.size (k0_off50_inb t))) (Val := Elt F) g (accV tab fp t 48) (Finset.mem_univ l), hjl]
    show tokSum tab (colV fp ⟨16 * t.val + (l 0).val, _⟩) 48 = tokSum tab (colV fp (j 0)) 48
    congr 2
    apply Fin.ext
    show 16 * t.val + (l 0).val = (j 0).val
    omega

/-- A tile's block of sums is the whole output's at the tile's place. -/
theorem blkOut_eq (w : S48x32768.Idx → BitVec 32) (tab : S3072.Idx → F .f32) (j : S1024.Idx) :
    blkOut tab (blkW w L) j = allOut tab w ((oR L).emb j) := by
  unfold blkOut allOut
  congr 1
  funext k
  unfold colV colA blkW
  congr 1
  funext a
  have e1 := k0_off1_eq L
  have e51 := k0_off51_eq L
  match a with
  | 0 =>
    apply Fin.ext
    show k0_off1 L 0 + 1 * (k % 48) = k % 48
    rw [e1]; show 0 + 1 * (k % 48) = k % 48; omega
  | 1 =>
    apply Fin.ext
    show k0_off1 L 1 + 1 * (j 0).val = k0_off51 L 0 + 1 * (j 0).val
    rw [e1, e51]; rfl

theorem tile_run (w : S48x32768.Idx → BitVec 32) (hw : ∀ i, (w i).toNat < 3072 * 65536) (tab : S3072.Idx → F .f32) (q : PosShare TreeShare)
    (O : CellTallies nD τ sig (HIx 1)) (W : Waits sig (HIx 1)) (z : S32768.Idx → F .f32)
    (g0 : Buf (Elt F) ((pV).view.loc (VT d L))) (g1 : Buf (Elt F) ((tV).view.loc (VT d L))) (g2 : Buf (Elt F) ((oV).view.loc (VT d L))) :
    (iprop(Transfers.MayWaits (VT d L) (default : HIx 1) O
        ∗ ((wK L).view.loc (VT d L) ↦[(wK L).view.set]{fullShare} (w : Buf (Elt F) _))
        ∗ ((tA).view.loc (VT d L) ↦{q} (tab : Buf (Elt F) _))
        ∗ ((oK L).view.loc (VT d L) ↦[(oK L).view.set]{fullShare} (z : Buf (Elt F) _))
        ∗ ((pV).view.loc (VT d L) ↦{fullShare} g0)
        ∗ ((tV).view.loc (VT d L) ↦{fullShare} g1)
        ∗ ((oV).view.loc (VT d L) ↦{fullShare} g2)
        ∗ cells0 d L
        ∗ owes (VT d L) O W) : sProp 𝕄)
      ⊢ wp frame (wpE (defs₀ (F := F)) 𝒱₀ (VT d L) none) Set.univ
          (cc0_sc_gather L wA (Memref.isWhole_whole _) tA (Memref.isWhole_whole _) oA (Memref.isWhole_whole _)
            pV (Memref.isWhole_whole _) tV (Memref.isWhole_whole _) oV (Memref.isWhole_whole _) cc0_scoped0 cc0_scoped1 cc0_scoped2)
          fun _ => iprop(((wK L).view.loc (VT d L) ↦[(wK L).view.set]{fullShare} (w : Buf (Elt F) _))
            ∗ ((tA).view.loc (VT d L) ↦{q} (tab : Buf (Elt F) _))
            ∗ ((oK L).view.loc (VT d L) ↦[(oK L).view.set]{fullShare} (allOut tab w : Buf (Elt F) _))
            ∗ (∃ g, (pV).view.loc (VT d L) ↦{fullShare} g)
            ∗ (∃ g, (tV).view.loc (VT d L) ↦{fullShare} g)
            ∗ (∃ g, (oV).view.loc (VT d L) ↦{fullShare} g)
            ∗ cells0 d L
            ∗ ∃ W', owes (VT d L) O W') := by
  rw [cc0_sc_gather_eq_skeleton]
  iintro ⟨#Hmw, Hw, Ht, Ho, Hp, Htv, Hov, ⟨Hc0, Hc1, Hc2⟩, HO⟩
  sl_unfold [cc0_sc_gather_skel]
  sl_exec
  have ep : View.write (Elt F) (pV).view g0 (tile_run.sl.dma0 L w) Finset.univ = blkW w L := by
    rw [View.write_whole_univ]; rfl
  have et : View.write (Elt F) (tV).view g1 (tile_run.sl.dma0_1 tab) Finset.univ = tab := by
    rw [View.write_whole_univ]; rfl
  rw [ep, et]
  sl_for (inv d L (blkW w L) tab) $$ [Hp Htv Hov]
  case region =>
    intro k _
    unfold inv
    iintro ⟨H2, %g, %hg, Hg⟩
    iapply (wp_wand_r Idealize.ShloMosaic.frame (wpE (defs₀ (F := F)) 𝒱₀ (VT d L) none) Set.univ)
    isplitl [H2 Hg]
    · iapply (trip_run (fp := blkW w L) (fun _ => hw _) tab d L k g)
      isplitl [H2]; · iexact H2
      iexact Hg
    iintro %_ ⟨H2, Hg⟩
    isplitl [H2]; · iexact H2
    iexists _; isplitr
    · ipureintro; exact trip_keeps (blkW w L) tab k g hg
    · iexact Hg
  · unfold inv held2
    isplitl [Hp Htv]
    · isplitl [Hp]; · iexact Hp
      iexact Htv
    iexists g2; isplitr
    · ipureintro; intro j hj; exact absurd hj (by omega)
    · iexact Hov
  iintro %_ HI
  unfold inv held2
  icases HI with ⟨⟨Hp, Htv⟩, %g, %hg, Hov⟩
  sl_exec
  have hg' : ∀ j : S1024.Idx, g j = blkOut tab (blkW w L) j := by
    have ht : Scf.trips k0_t1_loop.lb k0_t1_loop.ub k0_t1_loop.st = 64 := by decide
    intro j
    have hj : (j 0).val < 1024 := (j 0).isLt
    exact hg j (by omega)
  have hpay : tile_run.sl.dma0_2 g = g := rfl
  have hout : ∀ i ∈ (oK L).view.set, (oK L).view.writes (Elt F) z [⟨Rect.whole S1024, tile_run.sl.dma0_2 g⟩] i = allOut tab w i := by
    intro i hi
    obtain ⟨x, -, rfl⟩ := Finset.mem_map.mp hi
    have hr := congrFun (View.read_writes_whole (Val := Elt F) (oK L).view z (tile_run.sl.dma0_2 g)) x
    rw [View.read_apply, cast_eq] at hr
    rw [hr, hpay, hg' x]
    exact blkOut_eq L w tab x
  ihave Ho := (Entails.of_eq (pointsTo_congr (q := fullShare) hout)) $$ Ho
  sl_step
  isplitl [Hw]; · iexact Hw
  isplitl [Ht]; · iexact Ht
  isplitl [Ho]; · iexact Ho
  isplitl [Hp]; · iexists _; iexact Hp
  isplitl [Htv]; · iexists _; iexact Htv
  isplitl [Hov]; · iexists _; iexact Hov
  isplitl [Hc0 Hc1 Hc2]
  · isplitl [Hc0]; · iexact Hc0
    isplitl [Hc1]; · iexact Hc1
    iexact Hc2
  iexists _; iexact HO

end Cert.Proof.Sc

end
-- ==== Proof.Stage.lean ====
/-
  The projection's body at one grid step: the first step leaves the row sums of the projection matrix in the scratch;
  every step writes its block of the output from its sums, the row sums and the bias.
-/
module

public import proofs.«01_k».proof.Proof.Names
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Value
public import Idealize.ShloMosaic.Lib.Pipeline.FrameBody
public import Idealize.ShloMosaic.Lib.Pipeline.RegionsLoop
public import Idealize.ShloMosaic.Lib.Tactic

@[expose] public section

noncomputable section

namespace Cert.Proof.Stage

open Cert.KernelIdeal Cert.KernelIdeal.Gen Cert.Proof.Sc

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Idealize.ShloMosaic.SparseCore.Cfg (HIx)

variable {F : FTy → Type} [FloatOps F]

local notation "𝕄" => MT nD τ sig (HIx 1) (Elt F) ℕ UU ℕ

/-- The first row of an array of eight. -/
abbrev rowR : Rect S8x768 := Rect.unit (s := S8x768) ![0, 0] S1x768.size inb_S8x768_S1x768_0_0

/-- What the first step leaves in the scratch. -/
abbrev sumsOf (W : S768x768.Idx → F .f32) : S8x768.Idx → F .f32 := k1_pay1 W

/-- The block of the output a step writes. -/
abbrev blockOut (p : S1x1x512.Idx → F .f32) (s b : S8x768.Idx → F .f32) : S512x768.Idx → F .f32 :=
  k1_pay2 p (View.ld s rowR) (View.ld b rowR)

theorem zero2 : (![0, 0] : Fin 2 → Nat) = fun _ => 0 := funext fun a => by fin_cases a <;> rfl
theorem zero3 : (![0, 0, 0] : Fin 3 → Nat) = fun _ => 0 := funext fun a => by fin_cases a <;> rfl

abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The condition under which the row sums are taken fails after the first step. -/
theorem later_step : ∀ n : Fin 64, n.val ≠ 0
    → ¬ Scalar.cmpi .ne (Scalar.extui (Scalar.cmpi .eq (BitVec.ofNat 32 n.val) 0#32) : BitVec 32) 0#32 = 1#1 := by decide

/-- One step: what it reads stays, the scratch holds the row sums after it if it is the first or they were there before,
    and the output's block is written. -/
theorem step_run (c : Dev nD) (i : grid1.Coords)
    (a1 : Memref sig .tc .vmem S1x1x512 .f32) (h1 : a1.IsWhole) (a2 : Memref sig .tc .vmem S768x768 .f32) (h2 : a2.IsWhole)
    (a3 : Memref sig .tc .vmem S8x768 .f32) (h3 : a3.IsWhole) (a4 : Memref sig .tc .vmem S512x768 .f32) (h4 : a4.IsWhole)
    (a5 : Memref sig .tc .vmem S8x768 .f32) (h5 : a5.IsWhole)
    (p : S1x1x512.Idx → F .f32) (W : S768x768.Idx → F .f32) (b : S8x768.Idx → F .f32)
    (f1 : Buf (Elt F) (a1.view.loc (c : Thread nD τ))) (f2 : Buf (Elt F) (a2.view.loc (c : Thread nD τ)))
    (f3 : Buf (Elt F) (a3.view.loc (c : Thread nD τ))) (f4 : Buf (Elt F) (a4.view.loc (c : Thread nD τ)))
    (f5 : Buf (Elt F) (a5.view.loc (c : Thread nD τ)))
    (e1 : a1.view.read (Elt F) f1 = p) (e2 : a2.view.read (Elt F) f2 = W) (e3 : a3.view.read (Elt F) f3 = b)
    (e5 : (i 0).val ≠ 0 → a5.view.read (Elt F) f5 = sumsOf W) (Q : PUnit → sProp 𝕄) :
    iprop(pt c a1 f1 ∗ pt c a2 f2 ∗ pt c a3 f3 ∗ pt c a4 f4 ∗ pt c a5 f5
        ∗ (iprop(pt c a1 f1 ∗ pt c a2 f2 ∗ pt c a3 f3
            ∗ (∃ g4, ⌜a4.view.read (Elt F) g4 = blockOut p (sumsOf W) b⌝ ∗ pt c a4 g4)
            ∗ (∃ g5, ⌜a5.view.read (Elt F) g5 = sumsOf W⌝ ∗ pt c a5 g5)) -∗ Q ⟨⟩))
      ⊢ wp frame (wpE (defs₀ (F := F)) 𝒱₀ c none) Set.univ (cc1__stage3_body i a1 h1 a2 h2 a3 h3 a4 h4 a5 h5) Q := by
  rw [cc1__stage3_body_eq_skeleton]
  unfold cc1__stage3_body_skel
  by_cases hi : (i 0).val = 0
  · have hc : Scalar.cmpi .ne (Scalar.extui (Scalar.cmpi .eq (BitVec.ofNat 32 (i 0).val) 0#32) : BitVec 32) 0#32 = 1#1 := by rw [hi]; decide
    simp only [hc, dif_pos]
    iintro ⟨H1, H2, H3, H4, H5, Hk⟩
    sl_exec!
    sl_step
    iapply Hk
    isplitl [H1]
    · iexact H1
    isplitl [H2]
    · iexact H2
    isplitl [H3]
    · iexact H3
    isplitl [H4]
    · iexists _
      isplitr
      swap
      · iexact H4
      · ipureintro
        rw [View.read_writes_junk_eq_canon]
        sl_unfold_words
        rw [View.canon_unit_zero zero2, View.readCov_eq_canon', View.canon_unit_zero zero2, View.readAt_eq_ld, View.readAt_eq_ld,
          View.readAt_eq_ld, e1, e2, e3]
        erw [View.ld_unit_zero zero3, View.ld_unit_zero zero2]
    · iexists _
      isplitr
      swap
      · iexact H5
      · ipureintro
        rw [View.read_writes_junk_eq_canon]
        sl_unfold_words
        rw [View.canon_unit_zero zero2, View.readAt_eq_ld, e2]
        erw [View.ld_unit_zero zero2]
  · have hc : ¬ Scalar.cmpi .ne (Scalar.extui (Scalar.cmpi .eq (BitVec.ofNat 32 (i 0).val) 0#32) : BitVec 32) 0#32 = 1#1 :=
      later_step (i 0) hi
    simp only [hc, dif_neg, not_false_eq_true]
    iintro ⟨H1, H2, H3, H4, H5, Hk⟩
    sl_exec!
    sl_step
    iapply Hk
    isplitl [H1]
    · iexact H1
    isplitl [H2]
    · iexact H2
    isplitl [H3]
    · iexact H3
    isplitl [H4]
    · iexists _
      isplitr
      swap
      · iexact H4
      · ipureintro
        rw [View.read_writes_junk_eq_canon]
        sl_unfold_words
        rw [View.canon_unit_zero zero2, View.readAt_eq_ld, View.readAt_eq_ld, View.readAt_eq_ld, e1, e3, e5 hi]
        erw [View.ld_unit_zero zero3]
    · iexists f5
      isplitr
      · ipureintro; exact e5 hi
      · iexact H5

end Cert.Proof.Stage

end
-- ==== Proof.Region.lean ====
/-
  The projection's pipeline on one core: its grid of 64 steps from the sums, the projection matrix and the repeated bias
  to the whole output.
-/
module

public import proofs.«01_k».proof.Proof.Stage
public import Idealize.ShloMosaic.Lib.Pipeline.ValueKit.Geometry
public import Idealize.ShloMosaic.Lib.ValueIdxCore

@[expose] public section

noncomputable section

namespace Cert.Proof.Stage

open Cert.KernelIdeal Cert.KernelIdeal.Gen Cert.Proof.Sc

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Idealize.ShloMosaic.SparseCore.Cfg (HIx)
open Idealize.ShloMosaic.ValueIdx (ix2 ix3)

variable {F : FTy → Type} [FloatOps F]

local notation "𝕄" => MT nD τ sig (HIx 1) (Elt F) ℕ UU ℕ

/-- The block of the sums that step `t` reads. -/
def rowsOf (P : S64x1x512.Idx → F .f32) (t : Fin 64) : S1x1x512.Idx → F .f32 := fun y => P (ix3 t (y 1) (y 2))

/-- The whole output: each block of 512 rows as the step of its number writes it. -/
def outAll (P : S64x1x512.Idx → F .f32) (W : S768x768.Idx → F .f32) (b : S8x768.Idx → F .f32) : S32768x768.Idx → F .f32 :=
  fun i => blockOut (rowsOf P ⟨(i 0).val / 512, by have := (i 0).isLt; show _ < 64; change _ < 32768 at this; omega⟩) (sumsOf W) b
    (ix2 ⟨(i 0).val % 512, Nat.mod_lt _ (by decide)⟩ (i 1))

variable (V : (c : Dev nD) → (b : Ref sig .tc) → Buf (Elt F) ((c : Thread nD τ).loc b)) (B : Set (SemLoc sig × HIx 1))

/-- What the three input arrays hold when the pipeline starts. -/
abbrev inP (c : Dev nD) : S64x1x512.Idx → F .f32 := V c main_v4
abbrev inW (c : Dev nD) : S768x768.Idx → F .f32 := V c main_arg2
abbrev inB (c : Dev nD) : S8x768.Idx → F .f32 := V c main_v3

/-- The blocks of them step `t` is given. -/
abbrev blkP (c : Dev nD) (t : Fin cfg1.N) : S1x1x512.Idx → F .f32 := ((cfg1.win 0).blk t).view.read (Elt F) (V c main_v4)
abbrev blkW (c : Dev nD) (t : Fin cfg1.N) : S768x768.Idx → F .f32 := ((cfg1.win 1).blk t).view.read (Elt F) (V c main_arg2)
abbrev blkB (c : Dev nD) (t : Fin cfg1.N) : S8x768.Idx → F .f32 := ((cfg1.win 2).blk t).view.read (Elt F) (V c main_v3)

theorem index_0 : ∀ t : Fin cfg1.N, win1_0.index t = ![t.val, 0, 0] := (by decide +kernel : ∀ t : Fin grid1.N, _)
theorem index_1 : ∀ t : Fin cfg1.N, win1_1.index t = ![0, 0] := (by decide +kernel : ∀ t : Fin grid1.N, _)
theorem index_2 : ∀ t : Fin cfg1.N, win1_2.index t = ![0, 0] := (by decide +kernel : ∀ t : Fin grid1.N, _)
theorem index_3 : ∀ t : Fin cfg1.N, win1_3.index t = ![t.val, 0] := (by decide +kernel : ∀ t : Fin grid1.N, _)
theorem coord_0 : ∀ t : Fin cfg1.N, (grid1.coords t 0).val = t.val := (by decide +kernel : ∀ t : Fin grid1.N, _)

theorem blkW_eq (c : Dev nD) (t : Fin cfg1.N) : blkW V c t = inW V c := by
  funext y
  show V c main_arg2 (((cfg1.win 1).blk t).view.emb y) = V c main_arg2 y
  congr 1
  blk_ext [index_1 t]

theorem blkB_eq (c : Dev nD) (t : Fin cfg1.N) : blkB V c t = inB V c := by
  funext y
  show V c main_v3 (((cfg1.win 2).blk t).view.emb y) = V c main_v3 y
  congr 1
  blk_ext [index_2 t]

theorem blkP_eq (c : Dev nD) (t : Fin cfg1.N) : blkP V c t = rowsOf (inP V c) t := by
  funext y
  show V c main_v4 (((cfg1.win 0).blk t).view.emb y) = V c main_v4 (ix3 t (y 1) (y 2))
  congr 1
  blk_ext [index_0 t]

/-- The proof data: the arrays as the pipeline finds them; each step leaves its input blocks as they were and its output
    block written; the scratch holds the row sums from the first step on. -/
def dat (c : Dev nD) : Dat τ (Elt F) (HIx 1) ℕ UU ℕ cfg1 c where
  A w := V c (Pipeline.arrRef spec1 w)
  after w t := match w with
    | ⟨0, _⟩ => blkP V c t
    | ⟨1, _⟩ => blkW V c t
    | ⟨2, _⟩ => blkB V c t
    | ⟨3, _⟩ => blockOut (blkP V c t) (sumsOf (inW V c)) (blkB V c t)
  Φ t := iprop(∃ f, ⌜t.val ≠ 0 → (Memref.whole cc1_scratch0).view.read (Elt F) f = sumsOf (inW V c)⌝ ∗ pt c (Memref.whole cc1_scratch0) f)
  q _ := fullShare
  owed _ := 0
  recorded _ := B

theorem before_0 (c : Dev nD) (t : Fin cfg1.N) (x) : (dat V B c).before 0 t x = blkP V c t :=
  ((dat V B c).before_in_eq_fetched 0 rfl (fun _ => rfl) (fun _ _ _ => rfl) (fun _ => rfl) t x)
theorem before_1 (c : Dev nD) (t : Fin cfg1.N) (x) : (dat V B c).before 1 t x = blkW V c t :=
  ((dat V B c).before_in_eq_fetched 1 rfl (fun _ => rfl) (fun _ _ _ => rfl) (fun _ => rfl) t x)
theorem before_2 (c : Dev nD) (t : Fin cfg1.N) (x) : (dat V B c).before 2 t x = blkB V c t :=
  ((dat V B c).before_in_eq_fetched 2 rfl (fun _ => rfl) (fun _ _ _ => rfl) (fun _ => rfl) t x)

omit [FloatOps F] in
/-- A whole buffer owned at a reading is its contents held. -/
theorem owns_eq (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns pt; rw [h.set_eq_univ]

theorem body_obligation (c : Dev nD) : BodyObligation (dat V B c) (defs₀ (F := F)) 𝒱₀ none Set.univ := fun t => by
  rw [bigSep_W1, bigSep_W1]
  rw [show (dat V B c).Φ t.castSucc = iprop(∃ f, ⌜t.val ≠ 0 → (Memref.whole cc1_scratch0).view.read (Elt F) f = sumsOf (inW V c)⌝ ∗ pt c (Memref.whole cc1_scratch0) f) from rfl,
    show (dat V B c).Φ t.succ = iprop(∃ f, ⌜t.val + 1 ≠ 0 → (Memref.whole cc1_scratch0).view.read (Elt F) f = sumsOf (inW V c)⌝ ∗ pt c (Memref.whole cc1_scratch0) f) from rfl,
    show (dat V B c).owesAt none t.succ = (dat V B c).owesAt none t.castSucc from rfl]
  simp only [owns_eq c _ (hstage1_0 _), owns_eq c _ (hstage1_1 _), owns_eq c _ (hstage1_2 _), owns_eq c _ (hstage1_3 _)]
  iintro ⟨⟨%f5, %e5, H5⟩, Howes, ⟨%d1, %f1, %e1, H1⟩, ⟨%d2, %f2, %e2, H2⟩, ⟨%d3, %f3, %e3, H3⟩, ⟨%d4, %f4, -, H4⟩⟩
  rw [before_0] at e1
  rw [before_1] at e2
  rw [before_2] at e3
  iapply (step_run c (grid1.coords t) (win1_0.stage (cfg1.slots t 0)) (hstage1_0 _) (win1_1.stage (cfg1.slots t 1)) (hstage1_1 _)
    (win1_2.stage (cfg1.slots t 2)) (hstage1_2 _) (win1_3.stage (cfg1.slots t 3)) (hstage1_3 _) (Memref.whole cc1_scratch0) (Memref.isWhole_whole _)
    (blkP V c t) (inW V c) (blkB V c t) f1 f2 f3 f4 f5 e1 (e2.trans (blkW_eq V c t)) e3 (fun h => e5 (coord_0 t ▸ h)) _)
  isplitl [H1]; · iexact H1
  isplitl [H2]; · iexact H2
  isplitl [H3]; · iexact H3
  isplitl [H4]; · iexact H4
  isplitl [H5]; · iexact H5
  iintro ⟨H1, H2, H3, ⟨%g4, %e4, H4⟩, ⟨%g5, %e5', H5⟩⟩
  isplitl [H5]
  · iexists g5
    isplitr
    · ipureintro; exact fun _ => e5'
    · iexact H5
  isplitl [Howes]; · iexact Howes
  isplitl [H1]
  · iexists f1
    isplitr
    · ipureintro; exact e1
    · iexact H1
  isplitl [H2]
  · iexists f2
    isplitr
    · ipureintro; exact e2
    · iexact H2
  isplitl [H3]
  · iexists f3
    isplitr
    · ipureintro; exact e3
    · iexact H3
  iexists g4
  isplitr
  · ipureintro; exact e4
  · iexact H4

theorem final_out (c : Dev nD) : (dat V B c).arrAt 3 cfg1.N = outAll (inP V c) (inW V c) (inB V c) := by
  refine (dat V B c).arrAt_eq_of_covers 3 _ (by decide +kernel) fun t hf y => ?_
  show blockOut (blkP V c t) (sumsOf (inW V c)) (blkB V c t) y = _
  rw [blkP_eq, blkB_eq]
  have ht : t.val < 64 := t.isLt
  have hy : (show Fin 512 from y 0).val < 512 := Fin.isLt _
  have e0 : ((((cfg1.win 3).blk t).view.emb y) 0).val = t.val * 512 + (show Fin 512 from y 0).val := by blk_simp [index_3 t]
  have e1 : ((((cfg1.win 3).blk t).view.emb y) 1).val = (show Fin 768 from y 1).val := by blk_simp [index_3 t]
  unfold outAll
  have hrow : (⟨((((cfg1.win 3).blk t).view.emb y) 0).val / 512, by rw [e0]; omega⟩ : Fin 64) = t := Fin.ext (by show _ / 512 = t.val; rw [e0]; omega)
  refine congrArg₂ (fun p x => blockOut (rowsOf (inP V c) p) (sumsOf (inW V c)) (inB V c) x) hrow.symm ?_
  funext a
  apply Fin.ext
  match a with
  | 0 => show (show Fin 512 from y 0).val = _ % 512; erw [e0]; omega
  | 1 => exact e1.symm

/-- What the pipeline leaves: the output at its value, everything else as it was. -/
def Vp (c : Dev nD) (b : Ref sig .tc) : Buf (Elt F) ((c : Thread nD τ).loc b) :=
  Function.update (V c) main_v5 (outAll (inP V c) (inW V c) (inB V c)) b

theorem Vp_out (c : Dev nD) : Vp V c main_v5 = outAll (inP V c) (inW V c) (inB V c) := Function.update_self _ _ _
theorem Vp_ne (c : Dev nD) (b : Ref sig .tc) (h : b ≠ main_v5) : Vp V c b = V c b := Function.update_of_ne h _ _

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V B c

variable (L : GSem nD τ sig → Finset (HIx 1)) (lv : GSem nD τ sig → HIx 1 → ℕ)

set_option backward.isDefEq.respectTransparency.types false in
/-- The projection's region: entered with every unscoped buffer held and the core's waits so far within `B`, left with
    the output written and the waits still within `B`. -/
def region (hB : cfg1.waitPairs none ⊆ B) : Pipeline.RegionSeg (pcfgs (F := F)) adm (pdats V B) none defs₀ 𝒱₀ L lv 0 where
  win := (launch1).win.to₀
  block_pos := (launch1).block_pos
  stage_whole := (launch1).stage_whole
  K := PEmpty
  osem k := k.elim
  ho := Pipeline.OwnSemFacts.none _
  hbody c := (body_obligation V B c).loose
  hwaits := Pipeline.hwaits_of_owed_zero _ _ _ _ L lv 0 fun _ _ => rfl
  pre c := iprop(unscopedBufs c (V c) ∗ ∃ W : Waits sig (HIx 1), ⌜∀ p ∈ W, p ∈ B⌝ ∗ owes (c : Thread nD τ) (0 : CellTallies nD τ sig (HIx 1)) W)
  post c := iprop(unscopedBufs c (Vp V c) ∗ ∃ W : Waits sig (HIx 1), ⌜∀ p ∈ W, p ∈ B⌝ ∗ owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V B) (launch1).win (launch1).arr_whole c
      ((pdats V B 0 c).share_full fun _ => rfl) (V c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V B 0 c).Φ 0 = iprop(∃ f, ⌜(0 : Fin (cfg1.N + 1)).val ≠ 0 → (Memref.whole cc1_scratch0).view.read (Elt F) f = sumsOf (inW V c)⌝ ∗ pt c (Memref.whole cc1_scratch0) f) from rfl]
    rw [show (Pipeline.scopedRest (pcfgs (F := F) 0).spec c : sProp 𝕄) = _ from scopedRest1_eq c]
    iintro ⟨-, -, ⟨%f, H⟩⟩
    iexists f
    isplitr
    · ipureintro; exact fun h => absurd rfl h
    · iexact H
  hout c := by
    rw [Pipeline.ownSems0_none, show (Pipeline.scopedRest (pcfgs (F := F) 0).spec c : sProp 𝕄) = _ from scopedRest1_eq c]
    rw [show (pdats V B 0 c).Φ (Fin.last _) = iprop(∃ f, ⌜(Fin.last cfg1.N).val ≠ 0 → (Memref.whole cc1_scratch0).view.read (Elt F) f = sumsOf (inW V c)⌝ ∗ pt c (Memref.whole cc1_scratch0) f) from rfl]
    iintro ⟨%f, -, H⟩
    isplitr; · iempintro
    isplitr; · iempintro
    iexists f
    iexact H
  hexit c := by
    have hjoin := Pipeline.unscopedBufs_of_arrays (p := 0) (pcfgs (F := F)) adm (Ix := HIx 1) (Name := ℕ) (U := UU) (Lvl := ℕ) (launch1).win (launch1).arr_whole c
      (pdats V B) ((pdats V B 0 c).share_full fun _ => rfl) (V c) (Vp V c) ((pdats V B 0 c).arrAt · cfg1.N)
      (fun w => by
        fin_cases w
        · exact ((pdats V B 0 c).arrAt_in 0 rfl _).trans (Vp_ne V c main_v4 (by decide)).symm
        · exact ((pdats V B 0 c).arrAt_in 1 rfl _).trans (Vp_ne V c main_arg2 (by decide)).symm
        · exact ((pdats V B 0 c).arrAt_in 2 rfl _).trans (Vp_ne V c main_v3 (by decide)).symm
        · exact (final_out V B c).trans (Vp_out V c).symm)
      (fun b hb => Vp_ne V c b fun h => hb (h ▸ Finset.mem_image.mpr ⟨3, Finset.mem_univ _, rfl⟩))
    iintro ⟨Ha, ⟨%W, %hW, HO⟩, -, Hrest⟩
    imodintro
    isplitl [Ha Hrest]
    · iapply hjoin; isplitl [Ha] <;> iassumption
    iexists W
    isplitr
    · ipureintro; exact fun p hp => (hW hp).elim id fun h => hB h
    · iexact HO

end Cert.Proof.Stage

end
-- ==== Proof.Launch.lean ====
/-
  The launch: each tile of the two SparseCores is handed its columns of words, a share of the table and its block of
  the sums, and brings them back with its sums in place; the host reshapes the table before the call, and after it hands
  the sums, the projection matrix and the repeated bias to the projection's pipeline.
-/
module

public import proofs.«01_k».proof.Proof.Tile
public import proofs.«01_k».proof.Proof.Region

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

variable (m : (ℓ : Loc nD τ sig) → Buf (Elt F) ℓ) (ρ : Dev nD → PrngReg)

/-- What the proof asks of the launch memory: every packed word names a row of the table. -/
def PreOK : Prop := ∀ (d : Dev nD) (i : S48x32768.Idx), (show BitVec 32 from m (wLoc d) i).toNat < 3072 * 65536

/-- The words at launch, and the table the host's reshape makes of the features. -/
def words (d : Dev nD) : S48x32768.Idx → BitVec 32 := m (wLoc d)
def tabOf (d : Dev nD) : S3072.Idx → F .f32 := shapeCast S3072 (show S4x768.Idx → F .f32 from m (xLoc d)) shapeCasts_S4x768_S3072

/-- The grid point of a SparseCore's vector subcore. -/
def coordsV (c : Fin (grid0.bound 0)) (s : Fin (grid0.bound 1)) : grid0.Coords :=
  fun | 0 => c | 1 => s | ⟨_ + 2, h⟩ => absurd h (Nat.not_lt.2 (Nat.le_add_left _ _))

abbrev Lp (p : Fin 2 × Fin 16) : grid0.Coords := coordsV p.1 p.2

/-- A tile's elements of the words and of the output, and its share of the table. -/
abbrev wSet (p : Fin 2 × Fin 16) : Finset S48x32768.Idx := (wK (Lp p)).view.set
abbrev oSet (p : Fin 2 × Fin 16) : Finset S32768.Idx := (oK (Lp p)).view.set
abbrev tq (p : Fin 2 × Fin 16) : PosShare TreeShare := Transfers.shareTok fullShare (2 * 16) (finProdFinEquiv p)

variable [FloatOps F]

/-- What one tile holds, the output's block at `z`. -/
abbrev piece (d : Dev nD) (z : Buf (Elt F) (oLoc d)) (p : Fin 2 × Fin 16) : sProp 𝕄 :=
  iprop((wLoc d ↦[wSet p]{fullShare} (words m d : Buf (Elt F) (wLoc d))) ∗ (tLoc d ↦{tq p} (tabOf m d : Buf (Elt F) (tLoc d)))
    ∗ (oLoc d ↦[oSet p]{fullShare} z))

/-- The output the call leaves. -/
abbrev outOf (d : Dev nD) : Buf (Elt F) (oLoc d) := allOut (tabOf m d) (words m d)

theorem nSub_zero : (K (F := F)).nSub 0 = 16 := rfl
theorem nCore_zero : (K (F := F)).nCore 0 = 2 := rfl

/-- A task is handed its piece and brings it back with its sums; a SparseCore its sixteen tasks'. -/
def P : (K (F := F)).Pay (nD := nD) (Val := Elt F) (Name := ℕ) (U := UU) where
  st := fun q d c => match q with
    | 0 => bigSep Finset.univ fun i : Fin 16 => piece m d (m (oLoc d)) (Fin.cast nCore_zero c, i)
  dn := fun q d c => match q with
    | 0 => bigSep Finset.univ fun i : Fin 16 => piece m d (outOf m d) (Fin.cast nCore_zero c, i)
  go := fun q d c i => match q with
    | 0 => piece m d (m (oLoc d)) (Fin.cast nCore_zero c, Fin.cast nSub_zero i)
  td := fun q d c i => match q with
    | 0 => piece m d (outOf m d) (Fin.cast nCore_zero c, Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => piece m d (m (oLoc d)) (Fin.cast nCore_zero c, i)))
  dn q d c := match q with
    | 0 => (inferInstance : BI.Storable (upEmb : UEmb _ 𝕄) (bigSep Finset.univ fun i : Fin 16 => piece m d (outOf m d) (Fin.cast nCore_zero c, i)))
  go q d c i := match q with
    | 0 => (inferInstance : BI.Storable (upEmb : UEmb _ 𝕄) (piece m d (m (oLoc d)) (Fin.cast nCore_zero c, Fin.cast nSub_zero i)))
  td q d c i := match q with
    | 0 => (inferInstance : BI.Storable (upEmb : UEmb _ 𝕄) (piece m d (outOf m d) (Fin.cast nCore_zero c, Fin.cast nSub_zero i)))

/-! ## A tile's own buffers and cells -/

section Tile
variable (d : Dev nD) (L : grid0.Coords)

omit [FloatOps F] in
theorem dcell_mem (c : Fin τ.nSC) (i : Fin τ.nSub) (k : Fin 3) : dcell d c i k ∈ ownCells (V d c i) :=
  mem_ownCells.mpr ⟨rfl, (show ∀ s : DmaSem sig, (SemLoc.dma s : SemLoc sig).isScoped .scVector = true by decide) _⟩

omit [FloatOps F] in
/-- The subcore's own cells at zero: the three the body names, and the rest. -/
theorem ownSems0_V :
    (ownSems0 (VT d L) : sProp 𝕄)
      = iprop(cells0 d L ∗ bigSep ((ownCells (VT d L)) \ Finset.univ.image (dcell d (cAt L) (sAt L))) fun g => semVal g 0) := by
  unfold SparseCore.Cfg.ownSems0
  rw [SparseCore.bigSep_sdiff_split' (t := Finset.univ.image (dcell d (cAt L) (sAt L)))
      (Finset.image_subset_iff.mpr fun k _ => dcell_mem d (cAt L) (sAt L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 3)) = {0, 1, 2} by decide,
    SparseCore.bigSep_insert' (by decide), SparseCore.bigSep_insert' (by decide), bigSep_singleton]
  rfl

omit [FloatOps F] in
/-- The three scratch buffers, at some contents, are among the subcore's own. -/
theorem ownBufs_V :
    (ownBufs (VT d L) : sProp 𝕄)
      = iprop((∃ f, (pV).view.loc (VT d L) ↦{fullShare} f) ∗ (∃ f, (tV).view.loc (VT d L) ↦{fullShare} f) ∗ (∃ f, (oV).view.loc (VT d L) ↦{fullShare} f)
          ∗ bigSep ((((ownRefs (τ := τ) (.scVector (cAt L) (sAt L))).erase ((Proc.scVector (cAt L) (sAt L)).devRef cc0_scratch0)).erase
              ((Proc.scVector (cAt L) (sAt L)).devRef cc0_scratch1)).erase ((Proc.scVector (cAt L) (sAt L)).devRef cc0_scratch2))
              fun b => iprop(∃ f, ((d, b) : Loc nD τ sig) ↦{fullShare} f)) := by
  have hne {a b : Ref sig .scVector} (h : a ≠ b) : (Proc.scVector (cAt L) (sAt L)).devRef a ≠ (Proc.scVector (cAt L) (sAt L)).devRef b :=
    fun e => h (Proc.devRef_injective _ e)
  unfold SparseCore.Cfg.ownBufs
  refine (SparseCore.bigSep_erase' (SparseCore.Cfg.mem_ownRefs_of_owner (p := Proc.scVector (cAt L) (sAt L))
    (b := (Proc.scVector (cAt L) (sAt L)).devRef cc0_scratch0) rfl)).trans ?_
  rw [SparseCore.bigSep_erase' (Finset.mem_erase.mpr ⟨hne (show (cc0_scratch1 : Ref sig .scVector) ≠ cc0_scratch0 by decide),
      SparseCore.Cfg.mem_ownRefs_of_owner (p := Proc.scVector (cAt L) (sAt L)) (b := (Proc.scVector (cAt L) (sAt L)).devRef cc0_scratch1) rfl⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide),
      SparseCore.Cfg.mem_ownRefs_of_owner (p := Proc.scVector (cAt L) (sAt L)) (b := (Proc.scVector (cAt L) (sAt L)).devRef cc0_scratch2) rfl⟩⟩)]

/-- One tile from what the launch deals it to what it hands back. -/
theorem tile_body (hF : (K (F := F)).Facts) (w : S48x32768.Idx → BitVec 32) (hw : ∀ i, (w i).toNat < 3072 * 65536) (tab : S3072.Idx → F .f32)
    (q : PosShare TreeShare) (z : S32768.Idx → F .f32) (O : CellTallies nD τ sig (HIx 1)) (W : Waits sig (HIx 1)) (hO : ∀ g, O g none = 0) :
    (iprop(levAts (K (F := F)).L (K (F := F)).lev ∗ emp
        ∗ ((wLoc d ↦[(wK L).view.set]{fullShare} (w : Buf (Elt F) (wLoc d))) ∗ (tLoc d ↦{q} (tab : Buf (Elt F) (tLoc d)))
          ∗ (oLoc d ↦[(oK L).view.set]{fullShare} (z : Buf (Elt F) (oLoc d))))
        ∗ scopedBufs (VT d L) ∗ scopedSems0 (VT d L) ∗ owes (VT d L) O W) : sProp 𝕄)
      ⊢ wp frame (wpE (defs₀ (F := F)) 𝒱₀ (VT d L) none) Set.univ
          (cc0_sc_gather L wA (Memref.isWhole_whole _) tA (Memref.isWhole_whole _) oA (Memref.isWhole_whole _)
            pV (Memref.isWhole_whole _) tV (Memref.isWhole_whole _) oV (Memref.isWhole_whole _) cc0_scoped0 cc0_scoped1 cc0_scoped2)
          fun _ => iprop(((wLoc d ↦[(wK L).view.set]{fullShare} (w : Buf (Elt F) (wLoc d))) ∗ (tLoc d ↦{q} (tab : Buf (Elt F) (tLoc d)))
              ∗ (oLoc d ↦[(oK L).view.set]{fullShare} (allOut tab w : Buf (Elt F) (oLoc d))))
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cAt L) (sAt L), SparseCore.Cfg.scopedSems0_V (Val := Elt F) d (cAt L) (sAt L), ownSems0_V, ownBufs_V]
  iintro ⟨#Hlv, -, ⟨Hw, Ht, Ho⟩, ⟨⟨%g0, H0⟩, ⟨%g1, H1⟩, ⟨%g2, H2⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  iapply (wp_wand_r Idealize.ShloMosaic.frame (wpE (defs₀ (F := F)) 𝒱₀ (VT d L) none) Set.univ)
  isplitl [Hw Ht Ho H0 H1 H2 HC HO]
  · iapply (tile_run d L w hw tab q O W z g0 g1 g2)
    isplitr; · iexact Hmw
    isplitl [Hw]; · iexact Hw
    isplitl [Ht]; · iexact Ht
    isplitl [Ho]; · iexact Ho
    isplitl [H0]; · iexact H0
    isplitl [H1]; · iexact H1
    isplitl [H2]; · iexact H2
    isplitl [HC]; · iexact HC
    iexact HO
  iintro %_ ⟨Hw, Ht, Ho, ⟨%g, H0⟩, ⟨%g', H1⟩, ⟨%g'', H2⟩, HC, ⟨%W', HO⟩⟩
  isplitl [Hw Ht Ho]
  · isplitl [Hw]; · iexact Hw
    isplitl [Ht]; · iexact Ht
    iexact Ho
  isplitl [H0 H1 H2 Hbufs]
  · isplitl [H0]; · iexists _; iexact H0
    isplitl [H1]; · iexists _; iexact H1
    isplitl [H2]; · iexists _; iexact H2
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

theorem defs₀_vector (c : Fin τ.nSC) (s : Fin τ.nSub) :
    defs₀ (F := F) (.scVector c s) 0 ()
      = SparseCore.onTile hcore0 hsub0 (fun c s => cc0_sc_gather (coordsV c s)
          wA (Memref.isWhole_whole _) tA (Memref.isWhole_whole _) oA (Memref.isWhole_whole _)
          pV (Memref.isWhole_whole _) tV (Memref.isWhole_whole _) oV (Memref.isWhole_whole _) cc0_scoped0 cc0_scoped1 cc0_scoped2) ⟨⟩ c s := rfl

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (words m d) (hpre d) (tabOf m d) (tq (Fin.cast nCore_zero c, Fin.cast nSub_zero i)) (m (oLoc d)) O W hO

end Tile

theorem vecSplit : (K (F := F)).VecSplit' (P m) 0 := by
  intro d c
  show (bigSep Finset.univ fun i : Fin 16 => piece m d (m (oLoc d)) (Fin.cast nCore_zero c, i)) ⊢ |={Set.univ}=> iprop(
      (bigSep Finset.univ fun i : Fin 16 => piece m d (m (oLoc d)) (Fin.cast nCore_zero c, i))
      ∗ ((bigSep Finset.univ fun i : Fin 16 => piece m d (outOf m d) (Fin.cast nCore_zero c, i))
          -∗ bigSep Finset.univ fun i : Fin 16 => piece m d (outOf m d) (Fin.cast nCore_zero c, i)))
  iintro H; imodintro
  isplitl [H]; · iexact H
  iintro H; iexact H

/-! ## The arrays as the tiles' pieces -/

omit [FloatOps F] in
theorem wSet_eq (p : Fin 2 × Fin 16) : wSet p = (wR (Lp p)).set := by
  show ((View.whole (main_arg0_scv : Ref sig .scVector)).slice (wR (Lp p))).set = _
  rw [View.set_slice]; exact Finset.map_refl
omit [FloatOps F] in
theorem oSet_eq (p : Fin 2 × Fin 16) : oSet p = (oR (Lp p)).set := by
  show ((View.whole (main_v1_scv : Ref sig .scVector)).slice (oR (Lp p))).set = _
  rw [View.set_slice]; exact Finset.map_refl

omit [FloatOps F] in
/-- An element of the words is a tile's iff its column lies in the tile's 1024. -/
theorem mem_wSet (p : Fin 2 × Fin 16) (x : S48x32768.Idx) :
    x ∈ wSet p ↔ 2048 * p.2.val + 1024 * p.1.val ≤ (x 1).val ∧ (x 1).val < 2048 * p.2.val + 1024 * p.1.val + 1024 := by
  have e : k0_off1 (Lp p) = ![0, 2048 * p.2.val + 1024 * p.1.val] := k0_off1_eq (Lp p)
  have h0 : (x 0).val < 48 := (x 0).isLt
  rw [wSet_eq, Rect.mem_set_unit]
  constructor
  · intro h
    have := h 1
    rw [e] at this
    exact this
  · intro h a
    rw [e]
    match a with
    | 0 => exact ⟨Nat.zero_le _, by show (x 0).val < 0 + 48; omega⟩
    | 1 => exact h

omit [FloatOps F] in
theorem mem_oSet (p : Fin 2 × Fin 16) (x : S32768.Idx) :
    x ∈ oSet p ↔ 2048 * p.2.val + 1024 * p.1.val ≤ (x 0).val ∧ (x 0).val < 2048 * p.2.val + 1024 * p.1.val + 1024 := by
  have e : k0_off51 (Lp p) = ![2048 * p.2.val + 1024 * p.1.val] := k0_off51_eq (Lp p)
  rw [oSet_eq, Rect.mem_set_unit]
  constructor
  · intro h
    have := h 0
    rw [e] at this
    exact this
  · intro h a
    rw [e]
    match a with
    | 0 => exact h

/-- Two blocks of 1024 that share a place are one tile's; every place is in one. -/
theorem tile_unique {p p' : Fin 2 × Fin 16} {n : ℕ} (h : 2048 * p.2.val + 1024 * p.1.val ≤ n ∧ n < 2048 * p.2.val + 1024 * p.1.val + 1024)
    (h' : 2048 * p'.2.val + 1024 * p'.1.val ≤ n ∧ n < 2048 * p'.2.val + 1024 * p'.1.val + 1024) : p = p' := by
  have := p.1.isLt; have := p'.1.isLt
  exact Prod.ext (Fin.ext (by omega)) (Fin.ext (by omega))
theorem tile_exists {n : ℕ} (hn : n < 32768) :
    ∃ p : Fin 2 × Fin 16, 2048 * p.2.val + 1024 * p.1.val ≤ n ∧ n < 2048 * p.2.val + 1024 * p.1.val + 1024 :=
  ⟨(⟨n / 1024 % 2, by omega⟩, ⟨n / 2048, by omega⟩), by show 2048 * (n / 2048) + 1024 * (n / 1024 % 2) ≤ n ∧ n < 2048 * (n / 2048) + 1024 * (n / 1024 % 2) + 1024; omega⟩

omit [FloatOps F] in
theorem w_split (d : Dev nD) (f : Buf (Elt F) (wLoc d)) :
    (wLoc d ↦{fullShare} f : sProp 𝕄) = bigSep Finset.univ fun p : Fin 2 × Fin 16 => wLoc d ↦[wSet p]{fullShare} f := by
  rw [← pointsTo_biUnion Finset.univ (ℓ := wLoc d) wSet fun p _ p' _ h =>
      Finset.disjoint_left.mpr fun x hx hx' => h (tile_unique ((mem_wSet p x).1 hx) ((mem_wSet p' x).1 hx')),
    show (Finset.univ : Finset (Fin 2 × Fin 16)).biUnion wSet = Finset.univ from Finset.eq_univ_of_forall fun x =>
      have ⟨p, hp⟩ := tile_exists (show (x 1).val < 32768 from (x 1).isLt)
      Finset.mem_biUnion.mpr ⟨p, Finset.mem_univ _, (mem_wSet p x).2 hp⟩]
  try rfl
omit [FloatOps F] in
theorem o_split (d : Dev nD) (f : Buf (Elt F) (oLoc d)) :
    (oLoc d ↦{fullShare} f : sProp 𝕄) = bigSep Finset.univ fun p : Fin 2 × Fin 16 => oLoc d ↦[oSet p]{fullShare} f := by
  rw [← pointsTo_biUnion Finset.univ (ℓ := oLoc d) oSet fun p _ p' _ h =>
      Finset.disjoint_left.mpr fun x hx hx' => h (tile_unique ((mem_oSet p x).1 hx) ((mem_oSet p' x).1 hx')),
    show (Finset.univ : Finset (Fin 2 × Fin 16)).biUnion oSet = Finset.univ from Finset.eq_univ_of_forall fun x =>
      have ⟨p, hp⟩ := tile_exists (show (x 0).val < 32768 from (x 0).isLt)
      Finset.mem_biUnion.mpr ⟨p, Finset.mem_univ _, (mem_oSet p x).2 hp⟩]
  try rfl
omit [FloatOps F] in
/-- The table whole is the tiles' shares of it and what no tile is given. -/
theorem t_split (d : Dev nD) (f : Buf (Elt F) (tLoc d)) :
    (tLoc d ↦{fullShare} f : sProp 𝕄)
      ⊣⊢ iprop((tLoc d ↦{Transfers.shareDrop fullShare (2 * 16)} f) ∗ bigSep Finset.univ fun p : Fin 2 × Fin 16 => tLoc d ↦{tq p} f) := by
  rw [← bigSep_univ_equiv finProdFinEquiv (fun i : Fin (2 * 16) => (tLoc d ↦{Transfers.shareTok fullShare (2 * 16) i} f : sProp 𝕄))]
  exact Transfers.pointsTo_toks fullShare (2 * 16)

/-- The tiles' pieces are the words, their shares of the table, and the output. -/
theorem pieces_eq (d : Dev nD) (z : Buf (Elt F) (oLoc d)) :
    (bigSep Finset.univ fun p : Fin 2 × Fin 16 => piece m d z p)
      = (iprop((wLoc d ↦{fullShare} (words m d : Buf (Elt F) (wLoc d))) ∗ (bigSep Finset.univ fun p : Fin 2 × Fin 16 => tLoc d ↦{tq p} (tabOf m d : Buf (Elt F) (tLoc d)))
          ∗ (oLoc d ↦{fullShare} z)) : sProp 𝕄) := by
  rw [bigSep_sep', bigSep_sep', w_split, o_split]

theorem st0_eq (d : Dev nD) : (bigSep Finset.univ fun c : Fin ((K (F := F)).nCore 0) => (P m).st 0 d c) = bigSep Finset.univ fun p : Fin 2 × Fin 16 => piece m d (m (oLoc d)) p :=
  (BI.bigSep_univ_prod (fun p : Fin 2 × Fin 16 => piece m d (m (oLoc d)) p)).symm
theorem dn0_eq (d : Dev nD) : (bigSep Finset.univ fun c : Fin ((K (F := F)).nCore 0) => (P m).dn 0 d c) = bigSep Finset.univ fun p : Fin 2 × Fin 16 => piece m d (outOf m d) p :=
  (BI.bigSep_univ_prod (fun p : Fin 2 × Fin 16 => piece m d (outOf m d) p)).symm

/-! ## The launch's ghost state -/

/-- The pipeline's share of the ghost state, beside the handshakes'. -/
abbrev EPipe : Emb UP (MT nD τ sig (HIx 1) (Elt F) ℕ UU ℕ) := (Emb.inl : Emb UP (UP × Counters)).trans (embR : Emb (UP × Counters) (MT nD τ sig (HIx 1) (Elt F) ℕ UU ℕ))

def u₀ : UU := (initOf (K (F := F)).hsCells (K (F := F)).hsToks, (initOf (Pipeline.cells cfgs cellOf_inj) (Pipeline.launchToks cfgs cellOf_inj), 1))

/-- What a TensorCore needs of it to enter the pipeline. -/
abbrev G (d : Dev nD) : sProp 𝕄 :=
  iprop(Pipeline.cellsGhost (Pipeline.pin (pcfgs (F := F)) Stage.adm) EPipe 0 d ∗ Pipeline.toksInit (Pipeline.pin (pcfgs (F := F)) Stage.adm) EPipe 0 d)

theorem one_pipeline : (Finset.univ : Finset (Fin 1)) = {0} := rfl

omit [FloatOps F] in
theorem cells_eq : (bigSep Finset.univ fun d : Dev nD => bigSep Finset.univ fun p : Fin 1 => (Pipeline.cellsGhost cfgs (EPipe (F := F)) p d : sProp 𝕄))
    = bigSep Finset.univ fun d : Dev nD => Pipeline.cellsGhost cfgs (EPipe (F := F)) 0 d :=
  bigSep_congr fun d _ => by rw [one_pipeline, bigSep_singleton]
omit [FloatOps F] in
theorem toks_eq : (bigSep Finset.univ fun d : Dev nD => bigSep Finset.univ fun p : Fin 1 => (Pipeline.toksInit cfgs (EPipe (F := F)) p d : sProp 𝕄))
    = bigSep Finset.univ fun d : Dev nD => Pipeline.toksInit cfgs (EPipe (F := F)) 0 d :=
  bigSep_congr fun d _ => by rw [one_pipeline, bigSep_singleton]

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_emp_const _).trans (bigSep_emp_const _)
  rw [hx, bigSep_sep']
  unfold u₀
  iintro Hu
  ihave H := (ownU_pair (initOf (K (F := F)).hsCells (K (F := F)).hsToks) ((initOf (Pipeline.cells cfgs cellOf_inj) (Pipeline.launchToks cfgs cellOf_inj), 1) : UP × Counters)) $$ Hu
  icases H with ⟨HH, HR⟩
  ihave H := (own_pair_emb (embR : Emb (UP × Counters) (MT nD τ sig (HIx 1) (Elt F) ℕ UU ℕ)) (initOf (Pipeline.cells cfgs cellOf_inj) (Pipeline.launchToks cfgs cellOf_inj)) (1 : Counters)) $$ HR
  icases H with ⟨HP, -⟩
  imod (Pipeline.fund_ghost cfgs (EPipe (F := F)) cellOf_inj) $$ HP with ⟨Hc, Ht⟩
  imodintro
  isplitl [HH]; · iexact HH
  ihave Hc := (Entails.of_eq (cells_eq (F := F))) $$ Hc
  ihave Ht := (Entails.of_eq (toks_eq (F := F))) $$ Ht
  isplitl [Hc Ht]
  · isplitl [Hc]
    · iexact Hc
    · iexact Ht
  iempintro

/-! ## The host's part -/

open Idealize.ShloMosaic.StableHlo (held wp_hlo_within)

abbrev x' : DevRef τ sig := Proc.devRef .tc (main_arg1 : Ref sig .tc)
abbrev t' : DevRef τ sig := Proc.devRef .tc (main_v0 : Ref sig .tc)
abbrev opT : HloOp τ sig (Elt F) := StableHlo.reshape main_arg1 main_v0 (rfl : (.f32 : EltTy) = .f32) shapeCasts_S4x768_S3072
abbrev S2 : Finset (DevRef τ sig) := {x', t'}
def V0 (d : Dev nD) : Valuation τ sig (Elt F) := fun b => m (d, b)

omit [FloatOps F] in
theorem held_S2 (d : Dev nD) (W : Valuation τ sig (Elt F)) :
    (held (T d) S2 W : sProp 𝕄) = iprop((xLoc d ↦{fullShare} W x') ∗ (tLoc d ↦{fullShare} W t')) := by
  unfold held S2
  rw [SparseCore.bigSep_insert' (by decide), bigSep_singleton]

/-- After the reshape the features are as launched and the table is their reshape. -/
theorem held_after (d : Dev nD) :
    (held (T d) S2 ((opT (F := F)).result (V0 m d)) : sProp 𝕄)
      = iprop((xLoc d ↦{fullShare} m (xLoc d)) ∗ (tLoc d ↦{fullShare} (tabOf m d : Buf (Elt F) (tLoc d)))) := by
  rw [held_S2, (opT (F := F)).result_of_not_mem (V0 m d) (b := x') (show x' ∉ ({t'} : Finset (DevRef τ sig)) by decide)]
  congr 2

open Idealize.ShloMosaic.TcCoe
open Idealize.ShloMosaic.StableHlo (after)

/-- The host's buffers, those a kernel's call does not allocate. -/
def hostRefs : Finset (DevRef τ sig) := (StableHlo.tcRefs τ sig).filter fun b => ¬ b.isScoped

omit [FloatOps F] in
theorem unscopedBufs_valuation (d : Dev nD) (W : Valuation τ sig (Elt F)) :
    (unscopedBufs d (fun b => W b) : sProp 𝕄) = held (T d) hostRefs W := by
  unfold unscopedBufs held hostRefs StableHlo.tcRefs
  rw [Finset.filter_map, bigSep_map]
  rfl

abbrev gLoc (d : Dev nD) : Loc nD τ sig := (SparseCore.T d).loc main_arg2
abbrev bLoc (d : Dev nD) : Loc nD τ sig := (SparseCore.T d).loc main_arg3
abbrev b1Loc (d : Dev nD) : Loc nD τ sig := (SparseCore.T d).loc main_v2
abbrev b8Loc (d : Dev nD) : Loc nD τ sig := (SparseCore.T d).loc main_v3
abbrev pLoc (d : Dev nD) : Loc nD τ sig := (SparseCore.T d).loc main_v4
abbrev rLoc (d : Dev nD) : Loc nD τ sig := (SparseCore.T d).loc main_v5

set_option maxRecDepth 8192 in
omit [FloatOps F] in
theorem unscopedBufs_eq (d : Dev nD) (W : (b : Ref sig .tc) → Buf (Elt F) ((d.tc : Thread nD τ).loc b)) :
    (unscopedBufs d W : sProp 𝕄)
      = iprop((wLoc d ↦{fullShare} W main_arg0) ∗ (xLoc d ↦{fullShare} W main_arg1) ∗ (gLoc d ↦{fullShare} W main_arg2) ∗ (bLoc d ↦{fullShare} W main_arg3)
          ∗ (tLoc d ↦{fullShare} W main_v0) ∗ (oLoc d ↦{fullShare} W main_v1) ∗ (b1Loc d ↦{fullShare} W main_v2) ∗ (b8Loc d ↦{fullShare} W main_v3)
          ∗ (pLoc d ↦{fullShare} W main_v4) ∗ rLoc d ↦{fullShare} W main_v5) := by
  unfold unscopedBufs
  rw [show (Finset.univ.filter fun b : Ref sig .tc => ¬ b.isScoped) = {main_arg0, main_arg1, main_arg2, main_arg3, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-! ### Between the SparseCore's call and the pipeline -/

/-- The buffers after the SparseCore's call: the table made and the sums in place. -/
def V1 (d : Dev nD) : Valuation τ sig (Elt F) :=
  Function.update (Function.update (V0 m d) t' (tabOf m d : Buf (Elt F) (tLoc d))) (Proc.devRef .tc (main_v1 : Ref sig .tc)) (outOf m d)

abbrev opB1 : HloOp τ sig (Elt F) :=
  StableHlo.unary main_arg3 main_v2 (broadcastInDim S1x768 ![1] bcast_S768_S1x768_1 : (⟨S768, .f32⟩ : BufTy).Contents (Elt F) → (⟨S1x768, .f32⟩ : BufTy).Contents (Elt F))
abbrev opB8 : HloOp τ sig (Elt F) :=
  StableHlo.unary main_v2 main_v3 (broadcastInDim S8x768 ![0, 1] bcast_S1x768_S8x768_0_1 : (⟨S1x768, .f32⟩ : BufTy).Contents (Elt F) → (⟨S8x768, .f32⟩ : BufTy).Contents (Elt F))
abbrev opP : HloOp τ sig (Elt F) := StableHlo.reshape main_v1 main_v4 (rfl : (.f32 : EltTy) = .f32) shapeCasts_S32768_S64x1x512

def V2 (d : Dev nD) : Valuation τ sig (Elt F) := (opB1 (F := F)).result (V1 m d)
def V3 (d : Dev nD) : Valuation τ sig (Elt F) := (opB8 (F := F)).result (V2 m d)
def V4 (d : Dev nD) : Valuation τ sig (Elt F) := (opP (F := F)).result (V3 m d)

/-- The three arrays the pipeline reads. -/
def projW (d : Dev nD) : S768x768.Idx → F .f32 := m (gLoc d)
def bias8 (d : Dev nD) : S8x768.Idx → F .f32 :=
  broadcastInDim S8x768 ![0, 1] bcast_S1x768_S8x768_0_1 (broadcastInDim S1x768 ![1] bcast_S768_S1x768_1 (show S768.Idx → F .f32 from m (bLoc d)))
def sums (d : Dev nD) : S64x1x512.Idx → F .f32 := shapeCast S64x1x512 (show S32768.Idx → F .f32 from outOf m d) shapeCasts_S32768_S64x1x512

/-- What the kernel leaves in the result. -/
def resOf (d : Dev nD) : Buf (Elt F) (rLoc d) := Stage.outAll (sums m d) (projW m d) (bias8 m d)

theorem V1_at (d : Dev nD) (b : DevRef τ sig) (h0 : b ≠ t') (h1 : b ≠ Proc.devRef .tc (main_v1 : Ref sig .tc)) : V1 m d b = m (d, b) := by
  unfold V1; rw [Function.update_of_ne h1, Function.update_of_ne h0]; rfl

theorem V4_eq (d : Dev nD) : V4 m d = after [opB1 (F := F), opB8, opP] (V1 m d) := rfl

/-- The host's buffers when the pipeline starts. -/
abbrev VR (c : Dev nD) (b : Ref sig .tc) : Buf (Elt F) ((c : Thread nD τ).loc b) := V4 m c b

theorem VR_arg0 (d : Dev nD) : VR m d main_arg0 = m (wLoc d) := by
  unfold VR; rw [V4_eq]; after_results; exact V1_at m d _ (by decide) (by decide)
theorem VR_arg1 (d : Dev nD) : VR m d main_arg1 = m (xLoc d) := by
  unfold VR; rw [V4_eq]; after_results; exact V1_at m d _ (by decide) (by decide)
theorem VR_arg2 (d : Dev nD) : VR m d main_arg2 = m (gLoc d) := by
  unfold VR; rw [V4_eq]; after_results; exact V1_at m d _ (by decide) (by decide)
theorem VR_arg3 (d : Dev nD) : VR m d main_arg3 = m (bLoc d) := by
  unfold VR; rw [V4_eq]; after_results; exact V1_at m d _ (by decide) (by decide)
theorem VR_sums (d : Dev nD) : VR m d main_v4 = sums m d := by
  unfold VR; rw [V4_eq]; after_results; unfold V1; rw [Function.update_self]; rfl
theorem VR_bias (d : Dev nD) : VR m d main_v3 = bias8 m d := by
  unfold VR; rw [V4_eq]; after_results; rw [V1_at m d _ (by decide) (by decide)]; rfl

/-- The waits a TensorCore may have recorded once the SparseCore's call is over. -/
def waitsOf (d : Dev nD) : Set (SemLoc sig × HIx 1) := {p | (K (F := F)).lev (T d, p.1) p.2 ≤ 8}

omit [FloatOps F] in
theorem waits_pipe (d : Dev nD) : cfg1.waitPairs none ⊆ waitsOf (F := F) d := by
  rintro _ ⟨w, s, rfl⟩
  exact Nat.zero_le _

/-- The projection's region as @main enters it. -/
abbrev seg (d : Dev nD) := Stage.region (F := F) (VR m) (waitsOf (F := F) d) (K (F := F)).L (K (F := F)).lev (waits_pipe d)

/-- What @main leaves the claim: the arguments as launched, the result at its value. -/
abbrev FIN (d : Dev nD) : sProp 𝕄 :=
  iprop((wLoc d ↦{fullShare} m (wLoc d)) ∗ (xLoc d ↦{fullShare} m (xLoc d)) ∗ (gLoc d ↦{fullShare} m (gLoc d)) ∗ (bLoc d ↦{fullShare} m (bLoc d)) ∗ (rLoc d ↦{fullShare} resOf m d))

theorem Vp_res (d : Dev nD) : Stage.Vp (VR m) d main_v5 = resOf m d := by
  rw [Stage.Vp_out]; unfold Stage.inP Stage.inW Stage.inB; rw [VR_sums, VR_bias, VR_arg2]; rfl

theorem left_eq (d : Dev nD) : (unscopedBufs d (Stage.Vp (VR m) d) : sProp 𝕄) ⊢ FIN m d := by
  rw [unscopedBufs_eq, Stage.Vp_ne _ _ _ (by decide), Stage.Vp_ne _ _ _ (by decide), Stage.Vp_ne _ _ _ (by decide), Stage.Vp_ne _ _ _ (by decide),
    VR_arg0, VR_arg1, VR_arg2, VR_arg3, Vp_res]
  iintro ⟨Hw, Hx, Hg, Hb, -, -, -, -, -, Hr⟩
  isplitl [Hw]; · iexact Hw
  isplitl [Hx]; · iexact Hx
  isplitl [Hg]; · iexact Hg
  isplitl [Hb]; · iexact Hb
  iexact Hr

/-- The buffers after the SparseCore's call, one by one. -/
theorem held_V1 (d : Dev nD) :
    iprop((wLoc d ↦{fullShare} (words m d : Buf (Elt F) (wLoc d))) ∗ (xLoc d ↦{fullShare} m (xLoc d)) ∗ (gLoc d ↦{fullShare} m (gLoc d)) ∗ (bLoc d ↦{fullShare} m (bLoc d))
        ∗ (tLoc d ↦{fullShare} (tabOf m d : Buf (Elt F) (tLoc d))) ∗ (oLoc d ↦{fullShare} outOf m d) ∗ (b1Loc d ↦{fullShare} m (b1Loc d)) ∗ (b8Loc d ↦{fullShare} m (b8Loc d))
        ∗ (pLoc d ↦{fullShare} m (pLoc d)) ∗ rLoc d ↦{fullShare} m (rLoc d))
      ⊢ (held (T d) hostRefs (V1 m d) : sProp 𝕄) := by
  rw [← unscopedBufs_valuation, unscopedBufs_eq, V1_at m d (main_arg0 : DevRef τ sig) (by decide) (by decide), V1_at m d (main_arg1 : DevRef τ sig) (by decide) (by decide),
    V1_at m d (main_arg2 : DevRef τ sig) (by decide) (by decide), V1_at m d (main_arg3 : DevRef τ sig) (by decide) (by decide),
    V1_at m d (main_v2 : DevRef τ sig) (by decide) (by decide), V1_at m d (main_v3 : DevRef τ sig) (by decide) (by decide),
    V1_at m d (main_v4 : DevRef τ sig) (by decide) (by decide), V1_at m d (main_v5 : DevRef τ sig) (by decide) (by decide),
    show V1 m d (main_v0 : DevRef τ sig) = (tabOf m d : Buf (Elt F) (tLoc d)) from
      (Function.update_of_ne (by decide) _ _).trans (Function.update_self _ _ _),
    show V1 m d (main_v1 : DevRef τ sig) = outOf m d from Function.update_self _ _ _]
  exact Entails.of_eq rfl

theorem seg_pre (d : Dev nD) : (seg m d).pre d
    = (iprop(unscopedBufs d (VR m d) ∗ ∃ W : Waits sig (HIx 1), ⌜∀ p ∈ W, p ∈ waitsOf (F := F) d⌝ ∗ owes (d : Thread nD τ) 0 W) : sProp 𝕄) := rfl

theorem seg_post (d : Dev nD) : (seg m d).post d
    = (iprop(unscopedBufs d (Stage.Vp (VR m) d) ∗ ∃ W : Waits sig (HIx 1), ⌜∀ p ∈ W, p ∈ waitsOf (F := F) d⌝ ∗ owes (d : Thread nD τ) 0 W) : sProp 𝕄) := rfl

theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hw, Hx, Hg, Hbi, Ht, Ho, Hb1, Hb8, Hp, Hr⟩, Hts, -⟩, ⟨Hcg, Hct⟩⟩
  -- the table
  iapply (wp_hlo_within 𝒱 (SparseCore.T d) none Set.univ (op := opT) (S := S2) (show ({x', t'} : Finset (DevRef τ sig)) ⊆ S2 from Finset.Subset.refl _) (V := V0 m d)) $$ [Hb Hx Ht]
  · isplitl [Hb]; · iexact Hb
    rw [held_S2]
    isplitl [Hx]; · iexact Hx
    iexact Ht
  iintro ⟨Hb, Hheld⟩
  ihave Hh := (Entails.of_eq (held_after m d)) $$ Hheld
  icases Hh with ⟨Hx, Ht⟩
  ihave Hts' := (t_split d _).1 $$ Ht
  icases Hts' with ⟨Htr, Htp⟩
  rw [wp_ret]; imodintro
  -- the call
  iapply ((K (F := F)).wp_run (D (F := F)) 𝒱 (EH := EH) (P := P m) κ d 0) $$ [Hst Hw Htp Ho Hb Hts Hx Htr Hg Hbi Hb1 Hb8 Hp Hr Hcg Hct]
  isplitr; · iexact Hctx
  isplitl [Hst]; · iexact Hst
  isplitl [Hw Htp Ho]
  · rw [st0_eq, pieces_eq]
    isplitl [Hw]; · iexact Hw
    isplitl [Htp]; · iexact Htp
    iexact Ho
  iintro ⟨Hst, Hdn⟩
  ihave Hdn' := (Entails.of_eq ((dn0_eq m d).trans (pieces_eq m d _))) $$ Hdn
  icases Hdn' with ⟨Hw, Htp, Ho⟩
  ihave Ht := (t_split d _).2 $$ [Htr Htp]
  · isplitl [Htr] <;> iassumption
  ihave Hheld := (held_V1 m d) $$ [Hw Hx Hg Hbi Ht Ho Hb1 Hb8 Hp Hr]
  · isplitl [Hw]; · iexact Hw
    isplitl [Hx]; · iexact Hx
    isplitl [Hg]; · iexact Hg
    isplitl [Hbi]; · iexact Hbi
    isplitl [Ht]; · iexact Ht
    isplitl [Ho]; · iexact Ho
    isplitl [Hb1]; · iexact Hb1
    isplitl [Hb8]; · iexact Hb8
    isplitl [Hp]; · iexact Hp
    iexact Hr
  -- the bias repeated, the sums in blocks
  iapply (wp_hlo_within 𝒱 (SparseCore.T d) none Set.univ (op := opB1) (S := hostRefs) (show ({(main_arg3 : DevRef τ sig), (main_v2 : DevRef τ sig)} : Finset (DevRef τ sig)) ⊆ hostRefs by decide) (V := V1 m d)) $$ [Hb Hheld]
  · isplitl [Hb] <;> iassumption
  iintro ⟨Hb, Hheld⟩
  rw [wp_ret]; imodintro
  iapply (wp_hlo_within 𝒱 (SparseCore.T d) none Set.univ (op := opB8) (S := hostRefs) (show ({(main_v2 : DevRef τ sig), (main_v3 : DevRef τ sig)} : Finset (DevRef τ sig)) ⊆ hostRefs by decide) (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := opP) (S := hostRefs) (show ({(main_v1 : DevRef τ sig), (main_v4 : DevRef τ sig)} : Finset (DevRef τ sig)) ⊆ hostRefs by decide) (V := V3 m d)) $$ [Hb Hheld]
  · isplitl [Hb]; · iexact Hb
    iexact Hheld
  iintro ⟨Hb, Hheld⟩
  rw [wp_ret]; imodintro
  ihave Hub := (Entails.of_eq (show held (T d) hostRefs (opP.result (V3 m d)) = unscopedBufs d (VR m d) from (unscopedBufs_valuation d (V4 m d)).symm)) $$ Hheld
  -- the projection
  ihave Hst := (Entails.of_eq (show (K (F := F)).tcSt EH d ((0 : Fin 1).val + 1) = ((K (F := F)).tcSt EH d 1 : sProp 𝕄) from rfl)) $$ Hst
  unfold SparseCore.Cfg.tcSt
  icases Hst with ⟨⟨%W, %hW, HO⟩, Hrest⟩
  rw [(K (F := F)).Otc_end d (le_refl 1)]
  ihave #Hlev := ((K (F := F)).ctx_levAts κ) $$ Hctx
  iapply ((K (F := F)).wp_liftProg (D (F := F)) 𝒱 (T d) Set.univ none (.op (.customCall (Pipeline.entry 0) ()) .ret) _)
  iapply (Pipeline.RegionSeg.wp pcfgs Stage.adm (Stage.pdats (VR m) (waitsOf (F := F) d)) none cellOf_inj EPipe defs₀ 𝒱₀ (K (F := F)).L (K (F := F)).lev (seg m d) d none
    (fun u h => nomatch h) .ret _)
  isplitr [Hb Hub HO Hcg Hct]
  · rw [seg_post]
    iintro ⟨Hb, Hub, ⟨%W', %hW', HO⟩⟩
    rw [wp_ret]; imodintro; imodintro
    isplitl [HO Hrest]
    · isplitl [HO]
      · iexists W'
        isplitr; · ipureintro; exact hW'
        iexact HO
      iexact Hrest
    isplitl [Hub]; · iapply (left_eq m d); iexact Hub
    isplitl [Hb]; · iexact Hb
    iexact Hts
  isplitl [Hb]; · iexact Hb
  isplitl [Hub HO]
  · rw [seg_pre]
    isplitl [Hub]; · iexact Hub
    iexists W
    isplitr; · ipureintro; exact hW
    iexact HO
  isplitr; · iexact Hlev
  isplitl [Hcg]; · iexact Hcg
  iexact Hct

/-- What a final state must show on one device. -/
def fq (d : Dev nD) (s' : Phys nD τ sig (Elt F)) : Prop :=
  s'.mem.mem (wLoc d) = m (wLoc d) ∧ s'.mem.mem (xLoc d) = m (xLoc d) ∧ s'.mem.mem (gLoc d) = m (gLoc d) ∧ s'.mem.mem (bLoc d) = m (bLoc d)
    ∧ s'.mem.mem (rLoc d) = resOf m d

omit [FloatOps F] in
/-- A buffer owned whole holds in the state what it is owned with. -/
theorem read_whole (ℓ : Loc nD τ sig) (f : Buf (Elt F) ℓ) (s' : Phys nD τ sig (Elt F)) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨Hw, Hx, Hg, Hb, Hr⟩, HSI⟩
  ihave H := (read_whole (wLoc d) _ s') $$ [HSI Hw]
  · isplitl [HSI] <;> iassumption
  icases H with ⟨%h1, HSI⟩
  ihave H := (read_whole (xLoc d) _ s') $$ [HSI Hx]
  · isplitl [HSI] <;> iassumption
  icases H with ⟨%h2, HSI⟩
  ihave H := (read_whole (gLoc d) _ s') $$ [HSI Hg]
  · isplitl [HSI] <;> iassumption
  icases H with ⟨%h3, HSI⟩
  ihave H := (read_whole (bLoc d) _ s') $$ [HSI Hb]
  · isplitl [HSI] <;> iassumption
  icases H with ⟨%h4, HSI⟩
  ihave H := (read_whole (rLoc d) _ s') $$ [HSI Hr]
  · isplitl [HSI] <;> iassumption
  icases H with ⟨%h5, -⟩
  ipureintro
  exact ⟨h1, h2, h3, h4, h5⟩

/-- The whole run: the arguments kept, the result at its value, every counter back at zero. -/
def QC : PUnit × MemSt nD τ sig (Elt F) → Prop := fun r =>
  (∀ c : Dev nD, r.2.mem (wLoc c) = m (wLoc c) ∧ r.2.mem (xLoc c) = m (xLoc c) ∧ r.2.mem (gLoc c) = m (gLoc c) ∧ r.2.mem (bLoc c) = m (bLoc c)
    ∧ r.2.mem (rLoc c) = resOf m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.Sc

end
-- ==== Proof.Ref.lean ====
/-
  The reference's run: a straight line of host operations, and what it leaves at each token.
-/
module

public import proofs.«01_k».proof.Defs
public import Idealize.ShloMosaic.Lib.StableHlo.Run
public import proofs.«01_k».proof.Proof.Gen.ReferenceIdeal

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

abbrev ops : List (HloOp τ sig (Elt F)) :=
  [ nullary main_c (constantI S_ 32 16#32),
    unary main_c main_v0 (broadcastInDim S48x32768 ![] bcast_S_S48x32768),
    binary main_arg0 main_v0 main_v1 Host.shrsi,
    nullary main_c_0 (constantI S_ 32 65535#32),
    unary main_c_0 main_v2 (broadcastInDim S48x32768 ![] bcast_S_S48x32768),
    binary main_arg0 main_v2 main_v3 andi,
    unary main_v3 main_v4 (trunci 16 · natLt_16_32),
    unary main_v4 main_v5 (bitcastToFloat .bf16),
    unary main_v5 main_v6 (extf .f32 · bitsLt_bf16_f32),
    reshape main_arg1 main_v7 rfl shapeCasts_S4x768_S3072,
    nullary main_c_1 (constantI S_ 32 0#32),
    unary main_c_1 main_v8 (broadcastInDim S48x32768 ![] bcast_S_S48x32768),
    binary main_v1 main_v8 main_v9 (cmpi .slt),
    nullary main_c_2 (constantI S_ 32 3072#32),
    unary main_c_2 main_v10 (broadcastInDim S48x32768 ![] bcast_S_S48x32768),
    binary main_v1 main_v10 main_v11 addi,
    ternary main_v9 main_v11 main_v1 main_v12 select,
    unary main_v12 main_v13 (broadcastInDim S48x32768x1 ![0, 1] bcast_S48x32768_S48x32768x1_0_1),
    binary main_v7 main_v13 main_v14 (fun x i => Host.gather gather_S3072_S48x32768x1_S48x32768_n_0_n_n_0_2_1 x i),
    binary main_v14 main_v6 main_v15 mulf,
    nullary main_cst (constant S_ .f32 0x00000000#32),
    binary main_v15 main_cst main_v16 (fun x v => Host.reduceAdd x v reducesTo_S48x32768_S32768_d0 h_S_),
    unary main_v16 main_v17 (broadcastInDim S32768x1 ![0] bcast_S32768_S32768x1_0),
    unary main_v17 main_v18 (broadcastInDim S32768x768 ![0, 1] bcast_S32768x1_S32768x768_0_1),
    unary main_arg2 main_v19 (transpose S768x768 [1, 0] · transposes_S768x768_S768x768_1_0),
    binary main_v18 main_v19 main_v20 (fun l r => Host.dotGeneral dot_S32768x768_S768x768_S32768x768_1_0_0_1_n_n none l r),
    unary main_arg3 main_v21 (broadcastInDim S1x768 ![1] bcast_S768_S1x768_1),
    unary main_v21 main_v22 (broadcastInDim S32768x768 ![0, 1] bcast_S1x768_S32768x768_0_1),
    binary main_v20 main_v22 main_v23 addf ]

theorem main_eq (c : Dev nD) : main (F := F) c = seq ops := rfl

/-- The rows the words name, a negative one counted from the table's end. -/
def rows (pk : IVec S48x32768 32) : IVec S48x32768 32 :=
  let r := Host.shrsi pk (broadcastInDim S48x32768 ![] bcast_S_S48x32768 (constantI S_ 32 16#32))
  select (cmpi .slt r (broadcastInDim S48x32768 ![] bcast_S_S48x32768 (constantI S_ 32 0#32)))
    (addi r (broadcastInDim S48x32768 ![] bcast_S_S48x32768 (constantI S_ 32 3072#32))) r

/-- The weights the words hold. -/
def weights (pk : IVec S48x32768 32) : FVec F S48x32768 .f32 :=
  extf .f32 (bitcastToFloat .bf16 (trunci 16 (andi pk (broadcastInDim S48x32768 ![] bcast_S_S48x32768 (constantI S_ 32 65535#32))) natLt_16_32)) bitsLt_bf16_f32

/-- The sampled features by their weights, summed over the samples. -/
def value (pk : IVec S48x32768 32) (x0 : FVec F S4x768 .f32) : FVec F S32768 .f32 :=
  Host.reduceAdd (mulf (Host.gather gather_S3072_S48x32768x1_S48x32768_n_0_n_n_0_2_1 (shapeCast S3072 x0 shapeCasts_S4x768_S3072)
      (broadcastInDim S48x32768x1 ![0, 1] bcast_S48x32768_S48x32768x1_0_1 (rows pk))) (weights pk))
    (constant S_ .f32 0x00000000#32) reducesTo_S48x32768_S32768_d0 h_S_

/-- Every token's sum repeated along its row, by the projection's matrix, and the bias added. -/
def projected (pre : FVec F S32768 .f32) (W : FVec F S768x768 .f32) (b : FVec F S768 .f32) : FVec F S32768x768 .f32 :=
  addf (Host.dotGeneral dot_S32768x768_S768x768_S32768x768_1_0_0_1_n_n none
      (broadcastInDim S32768x768 ![0, 1] bcast_S32768x1_S32768x768_0_1 (broadcastInDim S32768x1 ![0] bcast_S32768_S32768x1_0 pre))
      (transpose S768x768 [1, 0] W transposes_S768x768_S768x768_1_0))
    (broadcastInDim S32768x768 ![0, 1] bcast_S1x768_S32768x768_0_1 (broadcastInDim S1x768 ![1] bcast_S768_S1x768_1 b))

theorem out_eq (V : Valuation τ sig (Elt F)) :
    after ops V (main_v23 : DevRef τ sig)
      = projected (value (V (main_arg0 : DevRef τ sig)) (V (main_arg1 : DevRef τ sig))) (V (main_arg2 : DevRef τ sig)) (V (main_arg3 : DevRef τ sig)) := by
  after_results
  rfl
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    unary_bufs_sub .., unary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., binary_bufs_sub .., unary_bufs_sub .., unary_bufs_sub ..,
    unary_bufs_sub .., binary_bufs_sub .., unary_bufs_sub .., unary_bufs_sub .., binary_bufs_sub ..⟩

/-- Every run of the reference ends with the value in its result, the arguments kept and every counter at zero. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v23)
            = projected (value (m ((c.tc : Thread nD τ).loc main_arg0)) (m ((c.tc : Thread nD τ).loc main_arg1))) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run defs _ _).mono (fun _ h c => ⟨(h c main_v23).trans (out_eq _), (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.Proof.Ref

end
-- ==== Proof.Equal.lean ====
/-
  The kernel's sums are the reference's, over the extended reals: the words' high halves name the rows, their low
  halves moved to the top of a word are the bfloat16 weights' values, and forty-eight products are added either way.
-/
module

public import proofs.«01_k».proof.Proof.Names
public import proofs.«01_k».proof.Proof.Ref
public import Idealize.ShloMosaic.Lib.ValueIdxCore
public import Idealize.ShloMosaic.Lib.ReduceAll
public import Idealize.ShloMosaic.Lib.Pointwise.Reduce
public import Idealize.ShloMosaic.PureOps.Ideal.Laws

@[expose] public section

noncomputable section

namespace Cert.Proof.Equal

open Idealize.ShloMosaic Idealize.ShloMosaic.ValueIdx Cert.Proof.Sc
open scoped BigOperators

/-- A bfloat16 pattern placed in the top half of a float32 word denotes the same number. -/
theorem bf16_in_word (w : BitVec 32) : Ideal.ofBits .f32 (w <<< (16#32 : BitVec 32)) = Ideal.ofBits .bf16 (w.setWidth 16) := by
  have hs : (w <<< (16#32 : BitVec 32)) = w <<< 16 := rfl
  rw [hs]
  show Ideal.ieee 8 23 (w <<< 16) = Ideal.ieee 8 7 (w.setWidth 16)
  have hneg : (w <<< 16).extractLsb' (8 + 23) 1 = (w.setWidth 16).extractLsb' (8 + 7) 1 := by
    apply BitVec.eq_of_toNat_eq
    simp [BitVec.extractLsb'_toNat, BitVec.toNat_shiftLeft, Nat.shiftRight_eq_div_pow, Nat.shiftLeft_eq]
    omega
  have hex : ((w <<< 16).extractLsb' 23 8).toNat = ((w.setWidth 16).extractLsb' 7 8).toNat := by
    simp [BitVec.extractLsb'_toNat, BitVec.toNat_shiftLeft, Nat.shiftRight_eq_div_pow, Nat.shiftLeft_eq]
    omega
  have hfr : ((w <<< 16).extractLsb' 0 23).toNat = ((w.setWidth 16).extractLsb' 0 7).toNat * 2 ^ 16 := by
    simp [BitVec.extractLsb'_toNat, BitVec.toNat_shiftLeft, Nat.shiftRight_eq_div_pow, Nat.shiftLeft_eq]
    omega
  have hz : (2 : ℝ) ^ (-133 : ℤ) = 2 ^ (-149 : ℤ) * 65536 := by
    rw [show (-133 : ℤ) = -149 + 16 by norm_num, zpow_add₀ (by norm_num)]; norm_num
  have hn (e : ℕ) : (2 : ℝ) ^ ((e : ℤ) - 127 - 7) = 2 ^ ((e : ℤ) - 127 - 23) * 65536 := by
    rw [show (e : ℤ) - 127 - 7 = (e - 127 - 23) + 16 by ring, zpow_add₀ (by norm_num)]; norm_num
  unfold Ideal.ieee
  simp only [hneg, hex, hfr]
  generalize ((w.setWidth 16).extractLsb' 7 8).toNat = ex
  generalize ((w.setWidth 16).extractLsb' 0 7).toNat = fr
  generalize ((w.setWidth 16).extractLsb' (8 + 7) 1 == 1#1) = neg
  have h0 : (fr * 2 ^ 16 = 0) = (fr = 0) := by simp
  simp only [h0]
  split_ifs <;> try rfl
  all_goals
    congr 1
    push_cast
  · rw [hz]; ring
  · rw [hz]; ring
  · rw [hn ex]; ring
  · rw [hn ex]; ring

/-- A token's sum is the finite sum of its words' contributions. -/
theorem tokSum_eq (tab : Cert.KernelIdeal.S3072.Idx → Ideal .f32) (col : ℕ → BitVec 32) (n : ℕ) :
    (tokSum tab col n : EReal) = ∑ k : Fin n, (term tab (col k) : EReal) := by
  induction n with
  | zero => exact Ideal.ofBits_zero_f32
  | succ n ih =>
    rw [Fin.sum_univ_castSucc]
    show ((tokSum tab col n : EReal) + (term tab (col n) : EReal)) = _
    rw [ih]
    rfl

/-- A word below 3072 · 65536 names the row of its high half, counted from the table's start. -/
theorem row_word {w : BitVec 32} (h : w.toNat < 3072 * 65536) :
    Scalar.select (IntOp.cmpi .slt (IntOp.shrsi .host w 16#32) 0#32) (IntOp.addi (IntOp.shrsi .host w 16#32) 3072#32) (IntOp.shrsi .host w 16#32)
      = w.sshiftRight' 16#32 := by
  have e : IntOp.shrsi .host w 16#32 = w.sshiftRight' 16#32 := rfl
  have hlt := row_lt h
  rw [e]
  have hn : IntOp.cmpi .slt (w.sshiftRight' 16#32) 0#32 = 0#1 := by
    show BitVec.ofBool ((w.sshiftRight' 16#32).slt 0#32) = 0#1
    rw [BitVec.slt_eq_decide, BitVec.toInt_eq_toNat_of_lt (by omega)]
    have : ¬ (((w.sshiftRight' 16#32).toNat : ℤ) < (0#32 : BitVec 32).toInt) := by simp
    rw [decide_eq_false this]; rfl
  rw [hn]; rfl

section
open Cert.ReferenceIdeal Cert.ReferenceIdeal.Gen

/-- One of the reference's products is the kernel's contribution of the same word. -/
theorem product_eq (pk : IVec S48x32768 32) (hpk : ∀ i, (pk i).toNat < 3072 * 65536) (x0 : FVec Ideal S4x768 .f32) (y : S48x32768.Idx) :
    (mulf (Host.gather gather_S3072_S48x32768x1_S48x32768_n_0_n_n_0_2_1 (shapeCast S3072 x0 shapeCasts_S4x768_S3072)
      (broadcastInDim S48x32768x1 ![0, 1] bcast_S48x32768_S48x32768x1_0_1 (Ref.rows pk))) (Ref.weights (F := Ideal) pk) y : EReal)
      = (term (F := Ideal) (shapeCast S3072 x0 shapeCasts_S4x768_S3072) (pk y) : EReal) := by
  show (Host.gather gather_S3072_S48x32768x1_S48x32768_n_0_n_n_0_2_1 (shapeCast S3072 x0 shapeCasts_S4x768_S3072)
      (broadcastInDim S48x32768x1 ![0, 1] bcast_S48x32768_S48x32768x1_0_1 (Ref.rows pk)) y : EReal) * (Ref.weights (F := Ideal) pk y : EReal)
    = (Ideal.ofBits .f32 (pk y <<< (16#32 : BitVec 32)) : EReal) * (shapeCast S3072 x0 shapeCasts_S4x768_S3072 (rowOf (pk y)) : EReal)
  rw [mul_comm, bf16_in_word]
  congr 1
  · show Ideal.ofBits .bf16 ((pk y &&& 65535#32).setWidth 16) = _
    congr 1
    apply BitVec.eq_of_toNat_eq
    have := Nat.and_two_pow_sub_one_eq_mod (pk y).toNat 16
    simp only [BitVec.toNat_setWidth, BitVec.toNat_and, BitVec.toNat_ofNat]
    norm_num at this ⊢
    rw [this]; omega
  · refine (gather_take_apply (N := 3072) (R := 48) (C := 32768) (by decide) gather_S3072_S48x32768x1_S48x32768_n_0_n_n_0_2_1_wf _ _ y).trans ?_
    congr 1
    have hrow : (broadcastInDim S48x32768x1 ![0, 1] bcast_S48x32768_S48x32768x1_0_1 (Ref.rows pk)) (takeIdx y) = (pk y).sshiftRight' 16#32 := by
      refine Eq.trans ?_ (row_word (hpk y))
      show Ref.rows pk _ = Ref.rows pk y
      congr 1
      funext a
      match a with
      | 0 => rfl
      | 1 => rfl
    have hlt := row_lt (hpk y)
    funext a
    match a with
    | 0 =>
      apply Fin.ext
      show min (BitVec.toInt _).toNat (3072 - 1) = _ % 3072
      rw [hrow, BitVec.toInt_eq_toNat_of_lt (by omega), Int.toNat_natCast]
      omega

/-- The reference's value at a token is the kernel's sum there. -/
theorem value_eq (pk : IVec S48x32768 32) (hpk : ∀ i, (pk i).toNat < 3072 * 65536) (x0 : FVec Ideal S4x768 .f32) :
    Ref.value (F := Ideal) pk x0 = allOut (F := Ideal) (shapeCast S3072 x0 shapeCasts_S4x768_S3072) pk := by
  funext n
  show Ideal.hostReduceAdd reducesTo_S48x32768_S32768_d0 _ (Ideal.ofBits .f32 0x00000000#32) n = (tokSum (F := Ideal) _ _ 48 : EReal)
  rw [Ideal.ofBits_zero_f32, Ideal.hostReduceAdd_r2_a0, zero_add, tokSum_eq]
  refine Finset.sum_congr rfl fun k _ => (product_eq pk hpk x0 _).trans ?_
  congr 2
  funext a
  match a with
  | 0 => exact Fin.ext (Nat.mod_eq_of_lt k.isLt).symm
  | 1 => rfl

end

end Cert.Proof.Equal

end
-- ==== Proof.Project.lean ====
/-
  The projection over the extended reals: the kernel multiplies a token's sum by a row sum of the matrix, the reference
  sums the products along the row; where the token's sum and the matrix are finite the two are the same number.
-/
module

public import proofs.«01_k».proof.Proof.Region
public import proofs.«01_k».proof.Proof.Equal
public import Idealize.ShloMosaic.Lib.StackMember

@[expose] public section

noncomputable section

namespace Cert.Proof.Project

open Idealize.ShloMosaic Idealize.ShloMosaic.ValueIdx Cert.Proof.Sc
open scoped BigOperators

/-- A value that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) (f : ι → EReal) (h : ∀ i, IsReal (f i)) : IsReal (∑ i ∈ s, f i) := by
  choose g hg using h
  exact ⟨∑ i ∈ s, g i, by rw [← sum_coe]; exact Finset.sum_congr rfl fun i _ => hg i⟩

/-- Multiplication by a real number distributes over a sum of real numbers. -/
theorem mul_sum_real {ι : Type} (s : Finset ι) {x : EReal} (hx : IsReal x) (f : ι → EReal) (h : ∀ i, IsReal (f i)) :
    x * ∑ i ∈ s, f i = ∑ i ∈ s, x * f i := by
  obtain ⟨a, rfl⟩ := hx
  choose g hg using h
  simp only [hg]
  rw [sum_coe, ← EReal.coe_mul, Finset.mul_sum, ← sum_coe]
  exact Finset.sum_congr rfl fun i _ => EReal.coe_mul a (g i)

/-- A bfloat16 weight whose exponent is not all ones is a real number. -/
theorem weight_real (w : BitVec 32) (h : w &&& 0x7F80#32 ≠ 0x7F80#32) : IsReal (Ideal.ofBits .f32 (w <<< (16#32 : BitVec 32))) := by
  rw [Equal.bf16_in_word]
  show IsReal (Ideal.ieee 8 7 (w.setWidth 16))
  have hex : ¬ ((w.setWidth 16).extractLsb' 7 8).toNat = 2 ^ 8 - 1 := by
    intro e
    have e' : (w.setWidth 16).extractLsb' 7 8 = 255#8 := BitVec.eq_of_toNat_eq e
    apply h
    have hb (i : ℕ) (h7 : 7 ≤ i) (h15 : i < 15) : w.getLsbD i = true := by
      have := congrArg (fun v : BitVec 8 => v.getLsbD (i - 7)) e'
      simp only [BitVec.getLsbD_extractLsb', BitVec.getLsbD_setWidth] at this
      rw [show 7 + (i - 7) = i by omega, decide_eq_true (show i - 7 < 8 by omega), decide_eq_true (show i < 16 by omega), Bool.true_and, Bool.true_and] at this
      rw [this]
      exact (by decide : ∀ k : Fin 8, (255#8 : BitVec 8).getLsbD k.val = true) ⟨i - 7, by omega⟩
    apply BitVec.eq_of_getLsbD_eq
    intro i hi
    rw [BitVec.getLsbD_and]
    by_cases h7 : 7 ≤ i ∧ i < 15
    · rw [hb i h7.1 h7.2, Bool.true_and]
    · rw [(by decide : ∀ k : Fin 32, ¬ (7 ≤ k.val ∧ k.val < 15) → (0x7F80#32 : BitVec 32).getLsbD k.val = false) ⟨i, hi⟩ h7, Bool.and_false]
  unfold Ideal.ieee
  simp only [if_neg hex]
  split_ifs <;> exact ⟨_, rfl⟩

/-- A token's sum of finite weights by finite features is a real number. -/
theorem tokSum_real (tab : Cert.KernelIdeal.S3072.Idx → Ideal .f32) (ht : ∀ i, IsReal (tab i)) (col : ℕ → BitVec 32)
    (hc : ∀ k, col k &&& 0x7F80#32 ≠ 0x7F80#32) (n : ℕ) : IsReal (tokSum tab col n) := by
  rw [Equal.tokSum_eq]
  exact IsReal.sum _ _ fun k => (weight_real _ (hc k)).mul (ht _)

section
open Cert.KernelIdeal Cert.KernelIdeal.Gen

theorem rowR_emb (c : Fin 768) : Stage.rowR.emb (ValueIdx.ix2 (0 : Fin 1) c) = ValueIdx.ix2 (0 : Fin 8) c := by
  funext a
  match a with
  | 0 => exact Fin.ext rfl
  | 1 => exact Fin.ext (show 0 + 1 * c.val = c.val by omega)

/-- What the kernel leaves in column `c` of row `n`. -/
theorem outAll_at (pre : S32768.Idx → Ideal .f32) (W : S768x768.Idx → Ideal .f32) (b : S768.Idx → Ideal .f32) (n : Fin 32768) (c : Fin 768) :
    (Stage.outAll (F := Ideal) (shapeCast S64x1x512 pre shapeCasts_S32768_S64x1x512) W
        (broadcastInDim S8x768 ![0, 1] bcast_S1x768_S8x768_0_1 (broadcastInDim S1x768 ![1] bcast_S768_S1x768_1 b)) (ValueIdx.ix2 n c) : EReal)
      = (pre (ValueIdx.ix1 n) : EReal) * (∑ j : Fin 768, (W (ValueIdx.ix2 c j) : EReal)) + (b (ValueIdx.ix1 c) : EReal) := by
  have hn := n.isLt
  unfold Stage.outAll Stage.blockOut k1_pay2
  simp only [mulf_apply, addf_apply, Ideal.addf_def, Ideal.mulf_def]
  congr 2
  · rw [broadcastTo_apply (k := ValueIdx.ix2 ⟨n.val % 512, Nat.mod_lt _ (by decide)⟩ (0 : Fin 1)) (hk := fun a => by fin_cases a <;> rfl),
      shapeCast_apply (k := ValueIdx.ix1 ⟨n.val % 512, Nat.mod_lt _ (by decide)⟩)
        (hk := by rw [Shape.rowMajor_val_one, Shape.rowMajor_val_two]; show n.val % 512 = n.val % 512 * 1 + 0; omega),
      shapeCast_apply (k := ValueIdx.ix3 (0 : Fin 1) (0 : Fin 1) ⟨n.val % 512, Nat.mod_lt _ (by decide)⟩)
        (hk := by rw [Shape.rowMajor_val_one, Shape.rowMajor_val_three]; show (0 * 1 + 0) * 512 + n.val % 512 = n.val % 512; omega)]
    exact shapeCast_apply _ _ _ (ValueIdx.ix1 n)
      (by rw [Shape.rowMajor_val_one, Shape.rowMajor_val_three]; show n.val = (n.val / 512 * 1 + 0) * 512 + n.val % 512; omega)
  · rw [broadcastTo_apply (k := ValueIdx.ix2 (0 : Fin 1) c) (hk := fun a => by fin_cases a <;> rfl)]
    show Stage.sumsOf W (Stage.rowR.emb (ValueIdx.ix2 (0 : Fin 1) c)) = _
    rw [rowR_emb]
    unfold Stage.sumsOf k1_pay1
    rw [shapeCast_self, shapeCast_self,
      broadcastTo_apply (k := ValueIdx.ix2 (0 : Fin 1) c) (hk := fun a => by fin_cases a <;> rfl),
      shapeCast_apply (k := ValueIdx.ix1 c) (hk := by rw [Shape.rowMajor_val_one, Shape.rowMajor_val_two]; show c.val = 0 * 768 + c.val; omega)]
    exact Ideal.reduceAdd_r2_a1 (n0 := 768) (n1 := 768) _ _ _
  · rw [broadcastTo_apply (k := ValueIdx.ix2 (0 : Fin 1) c) (hk := fun a => by fin_cases a <;> rfl), shapeCast_self]
    show broadcastInDim S8x768 ![0, 1] bcast_S1x768_S8x768_0_1 (broadcastInDim S1x768 ![1] bcast_S768_S1x768_1 b) (Stage.rowR.emb (ValueIdx.ix2 (0 : Fin 1) c)) = _
    rw [rowR_emb]
    rw [broadcastInDim_apply (k := ValueIdx.ix2 (0 : Fin 1) c) (hk := fun a => by fin_cases a <;> rfl),
      broadcastInDim_apply (k := ValueIdx.ix1 c) (hk := fun a => by fin_cases a; rfl)]

end

section
open Cert.ReferenceIdeal Cert.ReferenceIdeal.Gen

/-- What the reference leaves there. -/
theorem projected_at (pre : S32768.Idx → Ideal .f32) (W : S768x768.Idx → Ideal .f32) (b : S768.Idx → Ideal .f32) (n : Fin 32768) (c : Fin 768) :
    (Ref.projected (F := Ideal) pre W b (ValueIdx.ix2 n c) : EReal) = (∑ j : Fin 768, (pre (ValueIdx.ix1 n) : EReal) * (W (ValueIdx.ix2 c j) : EReal)) + (b (ValueIdx.ix1 c) : EReal) := by
  refine (congrArg₂ (fun x y : EReal => x + y) (StackMember.dotGeneral_plain_apply (m := 32768) (n := 768) (k := 768) none _ _ n c) rfl).trans ?_
  show _ + (broadcastInDim S32768x768 ![0, 1] bcast_S1x768_S32768x768_0_1 (broadcastInDim S1x768 ![1] bcast_S768_S1x768_1 b) (ValueIdx.ix2 n c) : EReal) = _
  congr 1
  · refine Finset.sum_congr rfl fun j _ => ?_
    congr 1
    · rw [broadcastInDim_apply (k := ValueIdx.ix2 n (0 : Fin 1)) (hk := fun a => by fin_cases a <;> rfl),
        broadcastInDim_apply (k := ValueIdx.ix1 n) (hk := fun a => by fin_cases a; rfl)]
    · exact transpose_apply _ _ _ _ (ValueIdx.ix2 c j) fun a => by fin_cases a <;> rfl
  · rw [broadcastInDim_apply (k := ValueIdx.ix2 (0 : Fin 1) c) (hk := fun a => by fin_cases a <;> rfl),
      broadcastInDim_apply (k := ValueIdx.ix1 c) (hk := fun a => by fin_cases a; rfl)]

end

/-- The kernel's result is the reference's. -/
theorem result_eq (pk : IVec Cert.ReferenceIdeal.S48x32768 32) (x0 : FVec Ideal Cert.ReferenceIdeal.S4x768 .f32) (W : FVec Ideal Cert.ReferenceIdeal.S768x768 .f32)
    (b : FVec Ideal Cert.ReferenceIdeal.S768 .f32) (hpk : ∀ i, (pk i).toNat < 3072 * 65536) (hw : ∀ i, pk i &&& 0x7F80#32 ≠ 0x7F80#32)
    (hx : ∀ i, IsReal (x0 i)) (hW : ∀ i, IsReal (W i)) :
    Ref.projected (F := Ideal) (Ref.value pk x0) W b
      = Stage.outAll (F := Ideal)
          (shapeCast Cert.KernelIdeal.S64x1x512
            (allOut (F := Ideal) (shapeCast Cert.KernelIdeal.S3072 x0 Cert.KernelIdeal.Gen.shapeCasts_S4x768_S3072) pk) Cert.KernelIdeal.Gen.shapeCasts_S32768_S64x1x512) W
          (broadcastInDim Cert.KernelIdeal.S8x768 ![0, 1] Cert.KernelIdeal.Gen.bcast_S1x768_S8x768_0_1
            (broadcastInDim Cert.KernelIdeal.S1x768 ![1] Cert.KernelIdeal.Gen.bcast_S768_S1x768_1 b)) := by
  rw [Equal.value_eq pk hpk x0]
  funext i
  rw [← show ValueIdx.ix2 (n0 := 32768) (n1 := 768) (i 0) (i 1) = i from funext fun a => by fin_cases a <;> rfl]
  refine (projected_at _ W b (i 0) (i 1)).trans (Eq.trans ?_ (outAll_at _ W b (i 0) (i 1)).symm)
  rw [mul_sum_real _ _ _ fun j => hW _]
  exact tokSum_real _ (fun k => hx _) _ (fun k => hw _) 48

end Cert.Proof.Project

end
-- ==== Proof.lean ====
/-
  The claim: the SparseCore gather of packed samples and the projection of its sums run safely, at the bit patterns and
  over the extended reals, and over the extended reals they compute the reference's output.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_indices_in_table
public import proofs.«01_k».proof.Proof.Gen.Pre_in_table_and_finite
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Launch
public import proofs.«01_k».proof.Proof.Ref
public import proofs.«01_k».proof.Proof.Project
public import Idealize.ShloMosaic.Lib.ReduceAll

@[expose] public section

noncomputable section

namespace Cert.Proof

open Idealize.ShloMosaic Idealize.SL.Sem

instance : Subsingleton Cert.Pre_indices_in_table.S_.Idx := ⟨fun _ _ => funext fun a => a.elim0⟩
instance : Subsingleton Cert.Pre_in_table_and_finite.S_.Idx := ⟨fun _ _ => funext fun a => a.elim0⟩

/-- A conjunction of two bits is set only if both are. -/
theorem both {x y : BitVec 1} (h : IntOp.andi x y = 1#1) : x = 1#1 ∧ y = 1#1 :=
  (by decide : ∀ x y : BitVec 1, IntOp.andi x y = 1#1 → x = 1#1 ∧ y = 1#1) x y h

theorem true_of_bit {b : Bool} (h : BitVec.ofBool b = 1#1) : b = true := by cases b <;> first | rfl | exact absurd h (by decide)

/-- A word that is at least 0 and less than 3072 · 65536 as a signed number is so as a natural number. -/
theorem word_range (w : BitVec 32) (h : IntOp.andi (IntOp.cmpi .sge w 0#32) (IntOp.cmpi .slt w 201326592#32) = 1#1) : w.toNat < 3072 * 65536 := by
  obtain ⟨h0, h1⟩ := both h
  replace h0 := true_of_bit (b := (0#32).sle w) h0
  replace h1 := true_of_bit (b := w.slt 201326592#32) h1
  rw [BitVec.sle_eq_decide, decide_eq_true_eq] at h0
  rw [BitVec.slt_eq_decide, decide_eq_true_eq] at h1
  have e0 : (0#32 : BitVec 32).toInt = 0 := rfl
  have e1 : (201326592#32 : BitVec 32).toInt = 201326592 := rfl
  have hw := BitVec.toInt_eq_toNat_cond w
  have := w.isLt
  rw [e0] at h0
  rw [e1] at h1
  split at hw <;> omega

/-- The precondition bounds every packed word, whatever the floats are. -/
theorem words_ok {F : FTy → Type} [FloatOps F] [hf : Cert.Pre_indices_in_table.Facts] (pk : IVec Cert.Pre_indices_in_table.S48x32768 32)
    (x0 : FVec F Cert.Pre_indices_in_table.S4x768 .f32) (W : FVec F Cert.Pre_indices_in_table.S768x768 .f32) (b : FVec F Cert.Pre_indices_in_table.S768 .f32)
    (h : Cert.Pre_indices_in_table.fn (F := F) pk x0 W b = fun _ => 1#1) (i : Cert.Pre_indices_in_table.S48x32768.Idx) : (pk i).toNat < 3072 * 65536 :=
  word_range (pk i) (Host.reduce_andi_all _ _ _ _ (fun a => a.elim0) (congrFun h fun a => a.elim0) i)

/-- A value less than infinity in magnitude is a real number. -/
theorem real_of_finite (x : Ideal .f32) (h : FloatOps.cmpf .olt (FloatOps.hostAbsf x) (FloatOps.ofBits (F := Ideal) .f32 0x7F800000#32) = 1#1) :
    Project.IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := of_decide_eq_true (true_of_bit h')
  induction x using EReal.rec with
  | bot => simp at hlt
  | top => simp at hlt
  | coe r => exact ⟨r, rfl⟩

/-- What the stronger precondition says of each input. -/
theorem inputs_ok [hf : Cert.Pre_in_table_and_finite.Facts] (pk : IVec Cert.Pre_in_table_and_finite.S48x32768 32)
    (x0 : FVec Ideal Cert.Pre_in_table_and_finite.S4x768 .f32) (W : FVec Ideal Cert.Pre_in_table_and_finite.S768x768 .f32)
    (b : FVec Ideal Cert.Pre_in_table_and_finite.S768 .f32) (h : Cert.Pre_in_table_and_finite.fn (F := Ideal) pk x0 W b = fun _ => 1#1) :
    (∀ i, (pk i).toNat < 3072 * 65536) ∧ (∀ i, pk i &&& 0x7F80#32 ≠ 0x7F80#32) ∧ (∀ i, Project.IsReal (x0 i)) ∧ ∀ i, Project.IsReal (W i) := by
  obtain ⟨h123, h4⟩ := both (congrFun h fun a => a.elim0)
  obtain ⟨h12, h3⟩ := both h123
  obtain ⟨h1, h2⟩ := both h12
  refine ⟨fun i => word_range (pk i) (Host.reduce_andi_all _ _ _ _ (fun a => a.elim0) h1 i), fun i => ?_,
    fun i => real_of_finite _ (Host.reduce_andi_all _ _ _ _ (fun a => a.elim0) h3 i), fun i => real_of_finite _ (Host.reduce_andi_all _ _ _ _ (fun a => a.elim0) h4 i)⟩
  have hne : IntOp.cmpi .ne (pk i &&& 0x7F80#32) 0x7F80#32 = 1#1 := Host.reduce_andi_all _ _ _ _ (fun a => a.elim0) h2 i
  exact of_decide_eq_true (by simpa using true_of_bit hne)

/-- The kernel's run leaves its arguments as launched and every counter at zero. -/
theorem frame_of_words {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) (hok : Sc.PreOK m) :
    θ_run (Cert.KernelIdeal.defs (F := F)) (Cert.KernelIdeal.threads (F := F)) ⟨m, fun _ => 0, ρ⟩ fun r =>
      (∀ c : Dev Cert.KernelIdeal.nD, r.2.mem (Sc.wLoc c) = m (Sc.wLoc c) ∧ r.2.mem (Sc.xLoc c) = m (Sc.xLoc c) ∧ r.2.mem (Sc.gLoc c) = m (Sc.gLoc c)
        ∧ r.2.mem (Sc.bLoc c) = m (Sc.bLoc c)) ∧ r.2.sem = fun _ => 0 :=
  (θ_run Cert.KernelIdeal.defs _ _).mono (fun _ h => ⟨fun c => ⟨(h.1 c).1, (h.1 c).2.1, (h.1 c).2.2.1, (h.1 c).2.2.2.1⟩, h.2⟩) (Sc.run_main m ρ hok)

/-- The kernel and its idealization have the same bodies, processor by processor and label by label. -/
theorem bodies_eq : Cert.Kernel.defs₀ (F := Bits) = Cert.KernelIdeal.defs₀ (F := Bits) := by
  funext p l
  cases p <;> fin_cases l <;> funext a <;> rfl

theorem defs_eq : Cert.Kernel.defs (F := Bits) = Cert.KernelIdeal.defs (F := Bits) := by
  unfold Cert.Kernel.defs Cert.KernelIdeal.defs
  rw [bodies_eq]
  rfl

theorem frame_kernel : Cert.quiescent_Kernel := by
  intro m ρ hpre
  rw [defs_eq]
  exact frame_of_words (F := Bits) m ρ fun d i => words_ok _ _ _ _ (hpre d) i

theorem frame_kernelIdeal : Cert.quiescent_KernelIdeal := fun m ρ hpre => frame_of_words (F := Ideal) m ρ fun d i => words_ok _ _ _ _ (hpre d) i

theorem frame_kernelIdeal_finite : Cert.quiescent_KernelIdeal_pre_in_table_and_finite := fun m ρ hpre =>
  frame_of_words (F := Ideal) m ρ fun d => (inputs_ok _ _ _ _ (hpre d)).1

/-- The reference runs safely from any inputs. -/
theorem frame_reference_any (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      (∀ c : Dev Cert.ReferenceIdeal.nD, r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) ∧ r.2.sem = fun _ => 0 :=
  (θ_run Cert.ReferenceIdeal.defs _ _).mono (fun r h => ⟨fun c => (h c).2, sem_eq_zero_of_no_sems (by decide) r.2⟩) (Ref.run_main (F := Ideal) m ρ)

theorem frame_reference : Cert.quiescent_ReferenceIdeal := fun m ρ _ => frame_reference_any m ρ

theorem frame_reference_finite : Cert.quiescent_ReferenceIdeal_pre_in_table_and_finite := fun m ρ _ => frame_reference_any m ρ

/-- Both programs end with the kernel's output in their results. -/
theorem algebraic : Cert.algebraic_KernelIdeal_ReferenceIdeal_pre_in_table_and_finite := by
  intro m ρ m' ρ' hpre hag
  have hin := fun c => inputs_ok _ _ _ _ (hpre c)
  refine ⟨fun c => Sc.resOf m c,
    (θ_run Cert.KernelIdeal.defs _ _).mono (fun _ h c => ⟨(h.1 c).2.2.2.2, (h.1 c).1, (h.1 c).2.1, (h.1 c).2.2.1, (h.1 c).2.2.2.1⟩)
      (Sc.run_main (F := Ideal) m ρ fun d => (hin d).1),
    (θ_run Cert.ReferenceIdeal.defs _ _).mono (fun _ h c => ⟨(h c).1.trans ?_, (h c).2⟩) (Ref.run_main (F := Ideal) m' ρ')⟩
  rw [(hag c).1, (hag c).2.1, (hag c).2.2.1, (hag c).2.2.2]
  exact Project.result_eq _ _ _ _ (hin c).1 (hin c).2.1 (hin c).2.2.1 (hin c).2.2.2

theorem claim : Cert.Claim :=
  ⟨Cert.Kernel.Gen.facts, Cert.KernelIdeal.Gen.facts, Cert.ReferenceIdeal.Gen.facts, Cert.Pre_indices_in_table.Gen.facts, Cert.Pre_in_table_and_finite.Gen.facts,
    frame_kernel, frame_kernelIdeal, frame_kernelIdeal_finite, frame_reference, frame_reference_finite, trivial, algebraic⟩

end Cert.Proof

end
